-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x3584 : Shape := ⟨3, ![4, 1024, 3584]⟩
abbrev S3584x7168 : Shape := ⟨2, ![3584, 7168]⟩
abbrev S7168 : Shape := ⟨1, ![7168]⟩
abbrev S4096x3584 : Shape := ⟨2, ![4096, 3584]⟩
abbrev S1x7168 : Shape := ⟨2, ![1, 7168]⟩
abbrev S4096x1 : Shape := ⟨2, ![4096, 1]⟩
abbrev S512x3584 : Shape := ⟨2, ![512, 3584]⟩
abbrev S3584x512 : Shape := ⟨2, ![3584, 512]⟩
abbrev S1x512 : Shape := ⟨2, ![1, 512]⟩
abbrev S512x1 : Shape := ⟨2, ![512, 1]⟩
abbrev S512x128 : Shape := ⟨2, ![512, 128]⟩
abbrev S512 : Shape := ⟨1, ![512]⟩
abbrev S1x256 : Shape := ⟨2, ![1, 256]⟩
abbrev S512x256 : Shape := ⟨2, ![512, 256]⟩
abbrev S512x512 : Shape := ⟨2, ![512, 512]⟩
abbrev S4x1024x1 : Shape := ⟨3, ![4, 1024, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x1024x3584, .bf16⟩
  | .hbm, ⟨1, _⟩ => ⟨S3584x7168, .fp8e4m3⟩
  | .hbm, ⟨2, _⟩ => ⟨S7168, .f32⟩
  | .hbm, ⟨3, _⟩ => ⟨S4096x3584, .bf16⟩
  | .hbm, ⟨4, _⟩ => ⟨S1x7168, .f32⟩
  | .hbm, ⟨5, _⟩ => ⟨S4096x1, .f32⟩
  | .hbm, ⟨6, _⟩ => ⟨S4096x3584, .fp8e4m3⟩
  | .hbm, ⟨7, _⟩ => ⟨S4096x3584, .fp8e4m3⟩
  | .hbm, ⟨8, _⟩ => ⟨S4096x1, .f32⟩
  | .hbm, ⟨9, _⟩ => ⟨S4x1024x1, .f32⟩
  | .hbm, ⟨10, _⟩ => ⟨S4x1024x3584, .fp8e4m3⟩
  | .hbm, ⟨11, _⟩ => ⟨S4x1024x3584, .fp8e4m3⟩
  | .hbm, ⟨12, _⟩ => ⟨S4x1024x1, .f32⟩
  | .local _ .vmem, ⟨0, _⟩ => ⟨S512x3584, .bf16⟩
  | .local _ .vmem, ⟨1, _⟩ => ⟨S512x3584, .bf16⟩
  | .local _ .vmem, ⟨2, _⟩ => ⟨S3584x512, .fp8e4m3⟩
  | .local _ .vmem, ⟨3, _⟩ => ⟨S3584x512, .fp8e4m3⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x3584, .fp8e4m3⟩
  | .local _ .vmem, ⟨13, _⟩ => ⟨S512x3584, .fp8e4m3⟩
  | .local _ .vmem, ⟨14, _⟩ => ⟨S512x3584, .fp8e4m3⟩
  | .local _ .vmem, ⟨15, _⟩ => ⟨S512x3584, .fp8e4m3⟩
  | .local _ .vmem, ⟨16, _⟩ => ⟨S512x1, .f32⟩
  | .local _ .vmem, ⟨17, _⟩ => ⟨S512x1, .f32⟩
  | .local _ .vmem, ⟨18, _⟩ => ⟨S512x3584, .f32⟩
  | .local _ .vmem, ⟨19, _⟩ => ⟨S512x128, .f32⟩
  | _, _ => ⟨S4x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 7], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  ![0, v28.toNat]
def k0_cond2 (i : grid0.Coords) : BitVec 1 :=
  let arg1 : BitVec 32 := BitVec.ofNat 32 (i 1).val
  let c6_i32 : BitVec 32 := 6#32
  let v45 : BitVec 1 := Scalar.cmpi .eq arg1 c6_i32
  let v46 : BitVec 32 := Scalar.extui v45
  let c0_i32_18 : BitVec 32 := 0#32
  let v47 : BitVec 1 := Scalar.cmpi .ne v46 c0_i32_18
  v47

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x1024x3584 : Shape := ⟨3, ![4, 1024, 3584]⟩
abbrev S3584x7168 : Shape := ⟨2, ![3584, 7168]⟩
abbrev S7168 : Shape := ⟨1, ![7168]⟩
abbrev S4x1024x1 : Shape := ⟨3, ![4, 1024, 1]⟩
abbrev S4096x3584 : Shape := ⟨2, ![4096, 3584]⟩
abbrev S4096 : Shape := ⟨1, ![4096]⟩
abbrev S4096x1 : Shape := ⟨2, ![4096, 1]⟩
abbrev S4096x7168 : Shape := ⟨2, ![4096, 7168]⟩
abbrev S1x7168 : Shape := ⟨2, ![1, 7168]⟩

abbrev nBuf : Space → Nat
  | .hbm => 7
  | .vmem => 7
  | .smem => 0
  | _ => 0

abbrev bufTy : (tb : Table) → Fin (tcTables nBuf tb) → BufTy
  | .hbm, ⟨0, _⟩ => ⟨S4x1024x3584, .bf16⟩
  | .hbm, ⟨1, _⟩ => ⟨S3584x7168, .fp8e4m3⟩
  | .hbm, ⟨2, _⟩ => ⟨S7168, .f32⟩
  | .hbm, ⟨3, _⟩ => ⟨S4x1024x1, .f32⟩
  | .hbm, ⟨4, _⟩ => ⟨S4x1024x3584, .fp8e4m3⟩
  | .hbm, ⟨5, _⟩ => ⟨S4x1024x3584, .fp8e4m3⟩
  | .hbm, ⟨6, _⟩ => ⟨S4x1024x1, .f32⟩
  | .local _ .vmem, ⟨0, _⟩ => ⟨S4x1024x3584, .bf16⟩
  | .local _ .vmem, ⟨1, _⟩ => ⟨S3584x7168, .fp8e4m3⟩
  | .local _ .vmem, ⟨2, _⟩ => ⟨S7168, .f32⟩
  | .local _ .vmem, ⟨3, _⟩ => ⟨S4x1024x1, .f32⟩
  | .local _ .vmem, ⟨4, _⟩ => ⟨S4x1024x3584, .fp8e4m3⟩
  | .local _ .vmem, ⟨5, _⟩ => ⟨S4x1024x3584, .fp8e4m3⟩
  | .local _ .vmem, ⟨6, _⟩ => ⟨S4x1024x1, .f32⟩
  | _, _ => ⟨S4x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S4x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.P.Body.lean ====
module

public import proofs.«01_k».proof.Proof.Gen.Kernel.Launch
public import proofs.«01_k».proof.Proof.Gen.Kernel.Points
public import proofs.«01_k».proof.Proof.Gen.Kernel.Skeleton
public import proofs.«01_k».proof.Proof.Gen.Kernel.Frame
public import Idealize.ShloMosaic.Lib.Pipeline.FrameBody
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

set_option maxRecDepth 16384

/-! # The kernel body's three cases

The grid is 8 row blocks by 7 column tiles. At the first tile of a row block the body quantises the block of `x` and
clears the running maximum; at every tile it computes one tile of `h` into the scratch and folds the tile's magnitudes
into the running maximum; at the last tile it quantises `h` from the scratch. One theorem for each case. -/

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The codes the body writes for a block of rows of `x`. -/
def codesOf (x : Vec F S512x3584 .bf16) : Vec F S512x3584 .fp8e4m3 := k0_pay9 (k0_pay3 x) (k0_pay4 x)

/-- The scales the body writes for a block of rows of `x`. -/
def scalesOf (x : Vec F S512x3584 .bf16) : Vec F S512x1 .f32 := k0_pay8 (F := F) (k0_pay5 x) 23#32

/-- One tile of `h` from codes, scales and the tile's two weight blocks and their scales. -/
def tileOf (xc : Vec F S512x3584 .fp8e4m3) (xs : Vec F S512x1 .f32) (wg wu : Vec F S3584x512 .fp8e4m3)
    (sg su : Vec F S1x512 .f32) : Vec F S512x512 .f32 := k0_pay12 xc xs wg wu sg su

/-- The running maximum after a tile, from the one before it. -/
def maxOf (xc : Vec F S512x3584 .fp8e4m3) (xs : Vec F S512x1 .f32) (wg wu : Vec F S3584x512 .fp8e4m3)
    (sg su : Vec F S1x512 .f32) (M : Vec F S512x128 .f32) : Vec F S512x128 .f32 :=
  k0_pay1 (k0_pay13 xc xs wg wu sg su) (k0_pay14 xc xs wg wu sg su M)

/-- The running maximum a row block starts from. -/
def maxZero : Vec F S512x128 .f32 := k0_pay10 (F := F)

section Reads

variable {Val : EltTy → Type} {κ : Kind} {sp : Space} {s : Shape} {e : EltTy}

/-- A load of a whole buffer reads it. -/
theorem readFull (v : View sig κ sp s e) (f : v.ty.Contents Val) {off : Fin s.rank → ℕ} (inb : ∀ a, off a + s.size a ≤ s.size a) :
    v.readAt Val (Rect.unit off (no_index s.size) inb).toLoadRect f = v.read Val f := View.readAt_full v f inb

/-- A store of a part of the buffer leaves the rest as it was. -/
theorem wrTile (v : View sig κ sp s e) (f : v.ty.Contents Val) {off size : Fin s.rank → ℕ} (inb : ∀ a, off a + size a ≤ s.size a)
    (w : (Rect.unit off size inb).shape.Idx → Val e) :
    v.read Val (v.writes Val f [⟨Rect.unit off size inb, w⟩]) = VecWindow.put (v.read Val f) off size w := by
  rw [View.read_writes_cons_put v f inb w [] rfl, View.writes_nil]

/-- A part that is the whole: what was put. -/
theorem putFull {α : Type} (x : s.Idx → α) {off size : Fin s.rank → ℕ} (w : ((a : Fin s.rank) → Fin (size a)) → α)
    (ho : ∀ a, off a = 0) (hs : size = s.size) :
    VecWindow.put x off size w = fun y => w (fun a => (y a).cast (by rw [hs])) := by
  subst hs
  funext y
  have h : ∀ a, off a ≤ (y a).val ∧ (y a).val < off a + s.size a := fun a => by
    have := (y a).isLt; have := ho a; omega
  unfold VecWindow.put
  rw [dif_pos h]
  refine congrArg w (funext fun a => Fin.ext ?_)
  show (y a).val - off a = (y a).val
  rw [ho a, Nat.sub_zero]

end Reads

/-- The first tile of a row block: codes and scales of the block of `x`, the first tile of `h` put into the scratch, the running maximum of that tile alone. -/
theorem body_first (c : Dev nD) (E : Set ℕ) (i : grid0.Coords) (h1 : k0_cond1 i = 1#1) (h2 : ¬ k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (x : Vec F S512x3584 .bf16) (wg wu : Vec F S3584x512 .fp8e4m3) (sg su : Vec F S1x512 .f32) (H : Vec F S512x3584 .f32) (K : PUnit → sProp 𝕄) :
    iprop(owns (c : Thread nD τ) arg2 fullShare x ∗ owns (c : Thread nD τ) arg3 fullShare wg ∗ owns (c : Thread nD τ) arg4 fullShare wu ∗ owns (c : Thread nD τ) arg5 fullShare sg ∗ owns (c : Thread nD τ) arg6 fullShare su ∗ (∃ d, owns (c : Thread nD τ) arg9 fullShare d) ∗ (∃ d, owns (c : Thread nD τ) arg10 fullShare d) ∗ owns (c : Thread nD τ) arg11 fullShare H ∗ (∃ d, owns (c : Thread nD τ) arg12 fullShare d)
        ∗ (iprop(owns (c : Thread nD τ) arg2 fullShare x ∗ owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare (codesOf x) ∗ owns (c : Thread nD τ) arg10 fullShare (scalesOf x) ∗ owns (c : Thread nD τ) arg11 fullShare (VecWindow.put H (k0_off1 i) S512x512.size (tileOf (codesOf x) (scalesOf x) wg wu sg su)) ∗ owns (c : Thread nD τ) arg12 fullShare (maxOf (codesOf x) (scalesOf x) wg wu sg su maxZero)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, ⟨%d12, %f12, -, H12⟩, Hk⟩
  subst hf2 hf3 hf4 hf5 hf6 hf11
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H10]
  · iexists _; isplitr
    swap; · iexact H10
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

/-- A tile that is neither the first nor the last: its part of `h` put into the scratch and its magnitudes folded into the running maximum. -/
theorem body_mid (c : Dev nD) (E : Set ℕ) (i : grid0.Coords) (h1 : ¬ k0_cond1 i = 1#1) (h2 : ¬ k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (xc : Vec F S512x3584 .fp8e4m3) (xs : Vec F S512x1 .f32) (wg wu : Vec F S3584x512 .fp8e4m3) (sg su : Vec F S1x512 .f32) (H : Vec F S512x3584 .f32) (M : Vec F S512x128 .f32) (K : PUnit → sProp 𝕄) :
    iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare xc ∗ owns (c : Thread nD τ) arg10 fullShare xs ∗ owns (c : Thread nD τ) arg11 fullShare H ∗ owns (c : Thread nD τ) arg12 fullShare M
        ∗ (iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare xc ∗ owns (c : Thread nD τ) arg10 fullShare xs ∗ owns (c : Thread nD τ) arg11 fullShare (VecWindow.put H (k0_off1 i) S512x512.size (tileOf xc xs wg wu sg su)) ∗ owns (c : Thread nD τ) arg12 fullShare (maxOf xc xs wg wu sg su M)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩, Hk⟩
  subst hf3 hf4 hf5 hf6 hf9 hf10 hf11 hf12
  sl_exec (disch := first | sl_exact h1 | sl_exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

/-- The last tile of a row block: as every tile, then the scale and the codes of the whole block of `h`. -/
theorem body_last (c : Dev nD) (E : Set ℕ) (i : grid0.Coords) (h1 : ¬ k0_cond1 i = 1#1) (h2 : k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (xc : Vec F S512x3584 .fp8e4m3) (xs : Vec F S512x1 .f32) (wg wu : Vec F S3584x512 .fp8e4m3) (sg su : Vec F S1x512 .f32) (H : Vec F S512x3584 .f32) (M : Vec F S512x128 .f32) (K : PUnit → sProp 𝕄) :
    iprop(owns (c : Thread nD τ) arg3 fullShare wg ∗ owns (c : Thread nD τ) arg4 fullShare wu ∗ owns (c : Thread nD τ) arg5 fullShare sg ∗ owns (c : Thread nD τ) arg6 fullShare su ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare H ∗ owns (c : Thread nD τ) arg12 fullShare M
        ∗ (iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg7 fullShare (k0_pay7 (maxOf xc xs wg wu sg su M)) ∗ owns (c : Thread nD τ) arg8 fullShare (k0_pay2 (k0_pay6 (maxOf xc xs wg wu sg su M)) (VecWindow.put H (k0_off1 i) S512x512.size (tileOf xc xs wg wu sg su))) ∗ owns (c : Thread nD τ) arg9 fullShare xc ∗ owns (c : Thread nD τ) arg10 fullShare xs ∗ owns (c : Thread nD τ) arg11 fullShare (VecWindow.put H (k0_off1 i) S512x512.size (tileOf xc xs wg wu sg su)) ∗ owns (c : Thread nD τ) arg12 fullShare (maxOf xc xs wg wu sg su M)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf3 hf4 hf5 hf6 hf9 hf10 hf11 hf12
  sl_exec (disch := first | sl_exact h1 | sl_exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H8]
  · iexists _; isplitr
    swap; · iexact H8
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H9]
  · iexists f9; isplitr; · ipureintro; rfl
    iexact H9
  isplitl [H10]
  · iexists f10; isplitr; · ipureintro; rfl
    iexact H10
  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

end Cert.Kernel.Run

end
-- ==== Proof.P.Run.lean ====
module

public import proofs.«01_k».proof.Proof.P.Body
public import Idealize.ShloMosaic.Lib.Pipeline.TableIdle
public import Idealize.ShloMosaic.Lib.Claim

@[expose] public section

set_option maxRecDepth 16384

/-! # The kernel's run

What every staging buffer and both scratches hold at every grid point, the body's obligation at every point from the
three cases of the body, and the run of the whole program with its frame. Point `t` is column tile `t % 7` of row block
`t / 7`. -/

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values of a row block -/

/-- The grid point of column tile `j` of row block `b`. -/
def pt (b j : ℕ) : Fin cfg0.N := ⟨(b * 7 + j) % 56, by rw [show cfg0.N = 56 from N_0]; omega⟩

theorem pt_self (t : Fin cfg0.N) : pt (t.val / 7) (t.val % 7) = t := Fin.ext (by
  have h : t.val < 56 := t.isLt.trans_eq N_0
  show (t.val / 7 * 7 + t.val % 7) % 56 = t.val
  omega)

theorem pt_first (t : Fin cfg0.N) (h : t.val % 7 = 0) : pt (t.val / 7) 0 = t := by
  conv_rhs => rw [← pt_self t, h]

/-- The codes of row block `b` of `x`. -/
def xcB (c : Dev nD) (b : ℕ) : Vec F S512x3584 .fp8e4m3 := codesOf (iblk m c 0 (pt b 0))

/-- The scales of row block `b` of `x`. -/
def xsB (c : Dev nD) (b : ℕ) : Vec F S512x1 .f32 := scalesOf (iblk m c 0 (pt b 0))

/-- Tile `j` of row block `b` of `h`. -/
def tileB (c : Dev nD) (b j : ℕ) : Vec F S512x512 .f32 :=
  tileOf (xcB m c b) (xsB m c b) (iblk m c 1 (pt b j)) (iblk m c 2 (pt b j)) (iblk m c 3 (pt b j)) (iblk m c 4 (pt b j))

/-- The running maximum of row block `b` after its first `n` tiles. -/
def maxB (c : Dev nD) (b : ℕ) : ℕ → Vec F S512x128 .f32
  | 0 => maxZero
  | n + 1 => maxOf (xcB m c b) (xsB m c b) (iblk m c 1 (pt b n)) (iblk m c 2 (pt b n)) (iblk m c 3 (pt b n)) (iblk m c 4 (pt b n)) (maxB c b n)

/-- The index within its tile of a column of the row block. -/
def inTile (y : S512x3584.Idx) : S512x512.Idx := fun a => match a with
  | ⟨0, _⟩ => ⟨(y 0).val, (y 0).isLt⟩
  | ⟨1, _⟩ => ⟨(y 1).val % 512, Nat.mod_lt _ (by decide)⟩

/-- Row block `b` of `h`, from its seven tiles. -/
def hidB (c : Dev nD) (b : ℕ) : Vec F S512x3584 .f32 := fun y => tileB m c b ((y 1).val / 512) (inTile y)

/-- The scales of row block `b` of `h`. -/
def hsB (c : Dev nD) (b : ℕ) : Vec F S512x1 .f32 := k0_pay7 (maxB m c b 7)

/-- The codes of row block `b` of `h`. -/
def hcB (c : Dev nD) (b : ℕ) : Vec F S512x3584 .fp8e4m3 := k0_pay2 (k0_pay6 (maxB m c b 7)) (hidB m c b)

/-- Putting tile `j` into a scratch that holds the tiles before it extends it by one. -/
theorem put_tile (c : Dev nD) (b j : ℕ) (hj : j < 7) (H : Vec F S512x3584 .f32) (off : Fin 2 → ℕ) (ho : off = ![0, 512 * j])
    (hH : ∀ y : S512x3584.Idx, (y 1).val < 512 * j → H y = hidB m c b y) (y : S512x3584.Idx) (hy : (y 1).val < 512 * (j + 1)) :
    VecWindow.put (s := S512x3584) H off S512x512.size (tileB m c b j) y = hidB m c b y := by
  subst ho
  unfold VecWindow.put
  split
  · rename_i h
    have h1 : 512 * j ≤ (y 1).val := (h 1).1
    have hq : (y 1).val / 512 = j := by omega
    unfold hidB
    rw [hq]
    refine congrArg (tileB m c b j) (funext fun a => ?_)
    fin_cases a
    · exact Fin.ext (Nat.sub_zero _)
    · refine Fin.ext ?_
      show (y 1).val - 512 * j = (y 1).val % 512
      omega
  · rename_i h
    refine hH y ?_
    by_contra hc
    refine h fun a => ?_
    fin_cases a
    · exact ⟨Nat.zero_le _, by have h0 : (y 0).val < 512 := (y 0).isLt; show (y 0).val < 0 + 512; omega⟩
    · exact ⟨by show 512 * j ≤ (y 1).val; omega, by show (y 1).val < 512 * j + 512; omega⟩

/-! ## The grid's conditions in closed form -/

theorem cond1_iff : ∀ t : Fin cfg0.N, k0_cond1 (grid0.coords t) = 1#1 ↔ t.val % 7 = 0 := by decide +kernel
theorem cond2_iff : ∀ t : Fin cfg0.N, k0_cond2 (grid0.coords t) = 1#1 ↔ t.val % 7 = 6 := by decide +kernel
theorem off_eq : ∀ t : Fin cfg0.N, k0_off1 (grid0.coords t) = ![0, 512 * (t.val % 7)] := by decide +kernel

theorem idle5 (t : Fin cfg0.N) : cfg0.idle 5 (cfg0.grid.coords t) = !decide (t.val % 7 = 6) := by
  show (!(k0_cond2 (grid0.coords t) == 1#1)) = _
  congr 1; rw [Bool.eq_iff_iff, beq_iff_eq, decide_eq_true_iff]; exact cond2_iff t
theorem idle6 (t : Fin cfg0.N) : cfg0.idle 6 (cfg0.grid.coords t) = !decide (t.val % 7 = 6) := idle5 t
theorem idle7 (t : Fin cfg0.N) : cfg0.idle 7 (cfg0.grid.coords t) = !decide (t.val % 7 = 0) := by
  show (!(k0_cond1 (grid0.coords t) == 1#1)) = _
  congr 1; rw [Bool.eq_iff_iff, beq_iff_eq, decide_eq_true_iff]; exact cond1_iff t
theorem idle8 (t : Fin cfg0.N) : cfg0.idle 8 (cfg0.grid.coords t) = !decide (t.val % 7 = 0) := idle7 t

theorem flush5 (t : Fin cfg0.N) : (cfg0.win 5).flush t = decide (t.val % 7 = 6) := by
  rw [Bool.eq_iff_iff, decide_eq_true_iff]; exact flush0_5 t
theorem flush6 (t : Fin cfg0.N) : (cfg0.win 6).flush t = decide (t.val % 7 = 6) := by
  rw [Bool.eq_iff_iff, decide_eq_true_iff]; exact flush0_6 t
theorem flush7 (t : Fin cfg0.N) : (cfg0.win 7).flush t = decide (t.val % 7 = 6) := by
  rw [Bool.eq_iff_iff, decide_eq_true_iff]; exact flush0_7 t
theorem flush8 (t : Fin cfg0.N) : (cfg0.win 8).flush t = decide (t.val % 7 = 6) := by
  rw [Bool.eq_iff_iff, decide_eq_true_iff]; exact flush0_8 t

/-! ## The proof data -/

/-- What the scratches hold before point `n`: within a row block, the tiles done so far and their running maximum. -/
def inv (c : Dev nD) (n : ℕ) : sProp 𝕄 :=
  iprop(∃ (H : Vec F S512x3584 .f32) (M : Vec F S512x128 .f32),
    ⌜n % 7 ≠ 0 → (∀ y : S512x3584.Idx, (y 1).val < 512 * (n % 7) → H y = hidB m c (n / 7) y) ∧ M = maxB m c (n / 7) (n % 7)⌝
    ∗ owns (c : Thread nD τ) (Memref.whole cc0_scratch0) fullShare H
    ∗ owns (c : Thread nD τ) (Memref.whole cc0_scratch1) fullShare M
    ∗ ∃ r, prngReg c r)

/-- The proof data on core `c`: the arrays as the region finds them; after the body each input's buffer at its block,
    the outputs' at their row block's scales and codes; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsB m c (t.val / 7)
    | ⟨6, _⟩ => hcB m c (t.val / 7)
    | ⟨7, _⟩ => xcB m c (t.val / 7)
    | ⟨8, _⟩ => xsB m c (t.val / 7)
  Φ n := inv m c n.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hsB m c (t.val / 7) := by dsimp only [dats]
theorem after6 (c : Dev nD) (t : Fin cfg0.N) : (dats m 0 c).after 6 t = hcB m c (t.val / 7) := by dsimp only [dats]
theorem after7 (c : Dev nD) (t : Fin cfg0.N) : (dats m 0 c).after 7 t = xcB m c (t.val / 7) := by dsimp only [dats]
theorem after8 (c : Dev nD) (t : Fin cfg0.N) : (dats m 0 c).after 8 t = xsB m c (t.val / 7) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The buffers of the codes and scales of `x` hold nothing of note exactly at the first tile of a row block. -/
theorem fresh7 : ∀ n, n ≤ cfg0.N → cfg0.fresh 7 n = decide (n % 7 = 0) :=
  Pipeline.Cfg.fresh_tab (cfg := cfg0) 7 (fun n => decide (n % 7 = 0)) (by decide) fun t => by
    rw [flush7, idle7, Bool.eq_iff_iff]
    simp only [Bool.or_eq_true, Bool.and_eq_true, Bool.not_eq_true', decide_eq_true_iff, decide_eq_false_iff_not]
    omega
theorem fresh8 : ∀ n, n ≤ cfg0.N → cfg0.fresh 8 n = decide (n % 7 = 0) :=
  Pipeline.Cfg.fresh_tab (cfg := cfg0) 8 (fun n => decide (n % 7 = 0)) (by decide) fun t => by
    rw [flush8, idle8, Bool.eq_iff_iff]
    simp only [Bool.or_eq_true, Bool.and_eq_true, Bool.not_eq_true', decide_eq_true_iff, decide_eq_false_iff_not]
    omega

/-- Past the first tile the body finds the row block's codes of `x` where the first tile left them. -/
theorem before7 (c : Dev nD) (t : Fin cfg0.N) (h : t.val % 7 ≠ 0) (d) : (dats m 0 c).before 7 t d = xcB m c (t.val / 7) := by
  refine ((dats m 0 c).before_out_traj 7 rfl (fun _ _ => rfl) (fun s hs hi hf => ?_) t.val t rfl d).trans ?_
  · rw [fresh7 s.val s.isLt.le, decide_eq_false_iff_not] at hf
    rw [after7, after7]
    congr 1; show s.val / 7 = (s.val - 1) / 7; omega
  · rw [fresh7 t.val t.isLt.le, decide_eq_false h, if_neg Bool.false_ne_true, after7]
    congr 1; show (t.val - 1) / 7 = t.val / 7; omega

/-- And the row block's scales of `x`. -/
theorem before8 (c : Dev nD) (t : Fin cfg0.N) (h : t.val % 7 ≠ 0) (d) : (dats m 0 c).before 8 t d = xsB m c (t.val / 7) := by
  refine ((dats m 0 c).before_out_traj 8 rfl (fun _ _ => rfl) (fun s hs hi hf => ?_) t.val t rfl d).trans ?_
  · rw [fresh8 s.val s.isLt.le, decide_eq_false_iff_not] at hf
    rw [after8, after8]
    congr 1; show s.val / 7 = (s.val - 1) / 7; omega
  · rw [fresh8 t.val t.isLt.le, decide_eq_false h, if_neg Bool.false_ne_true, after8]
    congr 1; show (t.val - 1) / 7 = t.val / 7; omega

/-! ## The body at a point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves, the four results' buffers apart. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ R)

/-- The results' buffers at the first tile: those of `h` as handed, those of `x` written. -/
def restFirst (c : Dev nD) (t : Fin cfg0.N) : sProp 𝕄 :=
  iprop((∃ d, owns (c : Thread nD τ) (st0_5 t) fullShare ((dats m 0 c).before 5 t d))
    ∗ (∃ d, owns (c : Thread nD τ) (st0_6 t) fullShare ((dats m 0 c).before 6 t d))
    ∗ owns (c : Thread nD τ) (st0_7 t) fullShare ((dats m 0 c).after 7 t)
    ∗ owns (c : Thread nD τ) (st0_8 t) fullShare ((dats m 0 c).after 8 t))

/-- At a middle tile: all as handed. -/
def restMid (c : Dev nD) (t : Fin cfg0.N) : sProp 𝕄 :=
  iprop((∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- At the last tile: all at the row block's values. -/
def restLast (c : Dev nD) (t : Fin cfg0.N) : sProp 𝕄 :=
  iprop(owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem Phi_succ (c : Dev nD) (t : Fin cfg0.N) : (dats m 0 c).Φ t.succ = inv m c (t.val + 1) := by dsimp only [dats]; rfl
theorem Phi_cast (c : Dev nD) (t : Fin cfg0.N) : (dats m 0 c).Φ t.castSucc = inv m c t.val := by dsimp only [dats]; rfl

/-- The running maximum after one more tile. -/
theorem maxB_succ (c : Dev nD) (t : Fin cfg0.N) :
    maxOf (xcB m c (t.val / 7)) (xsB m c (t.val / 7)) (iblk m c 1 t) (iblk m c 2 t) (iblk m c 3 t) (iblk m c 4 t) (maxB m c (t.val / 7) (t.val % 7))
      = maxB m c (t.val / 7) (t.val % 7 + 1) := by
  conv_rhs => unfold maxB
  rw [pt_self]

/-- The tile of point `t`. -/
theorem tileB_self (c : Dev nD) (t : Fin cfg0.N) :
    tileOf (xcB m c (t.val / 7)) (xsB m c (t.val / 7)) (iblk m c 1 t) (iblk m c 2 t) (iblk m c 3 t) (iblk m c 4 t)
      = tileB m c (t.val / 7) (t.val % 7) := by
  unfold tileB; rw [pt_self]

theorem sound_first (c : Dev nD) (t : Fin cfg0.N) (h : t.val % 7 = 0) :
    bodyPre m c t ⊢ wp frame (wpE (defs₀ (F := F)) Variants.none c none) Set.univ (bodyAt0 t) (fun _ => bodyPost m c t (restFirst m c t)) := by
  have hlt : t.val < 56 := t.isLt.trans_eq N_0
  unfold bodyPre bodyPost restFirst bodyAt0
  simp only [before0, before1, before2, before3, before4]
  rw [Phi_succ, Phi_cast,
    show (dats m 0 c).owesAt () t.succ = (dats m 0 c).owesAt () t.castSucc from rfl,
    after0, after1, after2, after3, after4, after7, after8]
  unfold inv
  iintro ⟨⟨%H, %M, -, HH, HM, Hr⟩, Ho, ⟨%d0, H0⟩, ⟨%d1, H1⟩, ⟨%d2, H2⟩, ⟨%d3, H3⟩, ⟨%d4, H4⟩, H5, H6, ⟨%d7, H7⟩, ⟨%d8, H8⟩⟩
  iapply (body_first c Set.univ (grid0.coords t) ((cond1_iff t).mpr h) (fun h' => by have := (cond2_iff t).mp h'; omega)
    _ _ _ _ _ _ _ _ _ _ _ _ _ _ _ _ _ _ _ _ _ _ (iblk m c 0 t) (iblk m c 1 t) (iblk m c 2 t) (iblk m c 3 t) (iblk m c 4 t) H _)
  isplitl [H0]; · iexact H0
  isplitl [H1]; · iexact H1
  isplitl [H2]; · iexact H2
  isplitl [H3]; · iexact H3
  isplitl [H4]; · iexact H4
  isplitl [H7]; · iexists _; iexact H7
  isplitl [H8]; · iexists _; iexact H8
  isplitl [HH]; · iexact HH
  isplitl [HM]; · iexists _; iexact HM
  iintro ⟨H0, H1, H2, H3, H4, H7, H8, HH, HM⟩
  have ex : codesOf (iblk m c 0 t) = xcB m c (t.val / 7) := by unfold xcB; rw [pt_first t h]
  have es : scalesOf (iblk m c 0 t) = xsB m c (t.val / 7) := by unfold xsB; rw [pt_first t h]
  rw [ex, es]
  isplitl [HH HM Hr]
  · iexists _; iexists _
    isplitr
    swap
    · isplitl [HH]; · iexact HH
      isplitl [HM]; · iexact HM
      iexact Hr
    ipureintro
    intro _
    have e1 : (t.val + 1) / 7 = t.val / 7 := by omega
    have e2 : (t.val + 1) % 7 = t.val % 7 + 1 := by omega
    rw [e1, e2]
    refine ⟨fun y hy => ?_, ?_⟩
    · rw [tileB_self]
      exact put_tile m c _ _ (by omega) H _ (off_eq t) (fun y hy => by omega) y hy
    · rw [← maxB_succ, h]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_mid (c : Dev nD) (t : Fin cfg0.N) (h0 : t.val % 7 ≠ 0) (h6 : t.val % 7 ≠ 6) :
    bodyPre m c t ⊢ wp frame (wpE (defs₀ (F := F)) Variants.none c none) Set.univ (bodyAt0 t) (fun _ => bodyPost m c t (restMid m c t)) := by
  have hlt : t.val < 56 := t.isLt.trans_eq N_0
  unfold bodyPre bodyPost restMid bodyAt0
  simp only [before0, before1, before2, before3, before4, before7 m c t h0, before8 m c t h0]
  rw [Phi_succ, Phi_cast,
    show (dats m 0 c).owesAt () t.succ = (dats m 0 c).owesAt () t.castSucc from rfl,
    after0, after1, after2, after3, after4]
  unfold inv
  iintro ⟨⟨%H, %M, %hHM, HH, HM, Hr⟩, Ho, ⟨%d0, H0⟩, ⟨%d1, H1⟩, ⟨%d2, H2⟩, ⟨%d3, H3⟩, ⟨%d4, H4⟩, H5, H6, ⟨%d7, H7⟩, ⟨%d8, H8⟩⟩
  obtain ⟨hH, rfl⟩ := hHM h0
  iapply (body_mid c Set.univ (grid0.coords t) (fun h' => h0 ((cond1_iff t).mp h')) (fun h' => h6 ((cond2_iff t).mp h'))
    _ _ _ _ _ _ _ _ _ _ _ _ _ _ _ _ _ _ _ _ _ _ (xcB m c (t.val / 7)) (xsB m c (t.val / 7)) (iblk m c 1 t) (iblk m c 2 t) (iblk m c 3 t) (iblk m c 4 t) H _ _)
  isplitl [H1]; · iexact H1
  isplitl [H2]; · iexact H2
  isplitl [H3]; · iexact H3
  isplitl [H4]; · iexact H4
  isplitl [H7]; · iexact H7
  isplitl [H8]; · iexact H8
  isplitl [HH]; · iexact HH
  isplitl [HM]; · iexact HM
  iintro ⟨H1, H2, H3, H4, H7, H8, HH, HM⟩
  isplitl [HH HM Hr]
  · iexists _; iexists _
    isplitr
    swap
    · isplitl [HH]; · iexact HH
      isplitl [HM]; · iexact HM
      iexact Hr
    ipureintro
    intro _
    have e1 : (t.val + 1) / 7 = t.val / 7 := by omega
    have e2 : (t.val + 1) % 7 = t.val % 7 + 1 := by omega
    rw [e1, e2]
    refine ⟨fun y hy => ?_, maxB_succ m c t⟩
    rw [tileB_self]
    exact put_tile m c _ _ (by omega) H _ (off_eq t) hH y hy
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

theorem sound_last (c : Dev nD) (t : Fin cfg0.N) (h6 : t.val % 7 = 6) :
    bodyPre m c t ⊢ wp frame (wpE (defs₀ (F := F)) Variants.none c none) Set.univ (bodyAt0 t) (fun _ => bodyPost m c t (restLast m c t)) := by
  have hlt : t.val < 56 := t.isLt.trans_eq N_0
  have h0 : t.val % 7 ≠ 0 := by omega
  unfold bodyPre bodyPost restLast bodyAt0
  simp only [before0, before1, before2, before3, before4, before7 m c t h0, before8 m c t h0]
  rw [Phi_succ, Phi_cast,
    show (dats m 0 c).owesAt () t.succ = (dats m 0 c).owesAt () t.castSucc from rfl,
    after0, after1, after2, after3, after4, after5, after6, after7, after8]
  unfold inv
  iintro ⟨⟨%H, %M, %hHM, HH, HM, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hH, rfl⟩ := hHM h0
  have em : maxOf (xcB m c (t.val / 7)) (xsB m c (t.val / 7)) (iblk m c 1 t) (iblk m c 2 t) (iblk m c 3 t) (iblk m c 4 t) (maxB m c (t.val / 7) (t.val % 7))
      = maxB m c (t.val / 7) 7 := by rw [maxB_succ, h6]
  have eh : VecWindow.put (s := S512x3584) H (k0_off1 (grid0.coords t)) S512x512.size
        (tileOf (xcB m c (t.val / 7)) (xsB m c (t.val / 7)) (iblk m c 1 t) (iblk m c 2 t) (iblk m c 3 t) (iblk m c 4 t))
      = hidB m c (t.val / 7) := funext fun y => by
    rw [tileB_self]
    exact put_tile m c _ _ (by omega) H _ (off_eq t) hH y (by have hy : (y 1).val < 3584 := (y 1).isLt; omega)
  iapply (body_last c Set.univ (grid0.coords t) (fun h' => h0 ((cond1_iff t).mp h')) ((cond2_iff t).mpr h6)
    _ _ _ _ _ _ _ _ _ _ _ _ _ _ _ _ _ _ _ _ _ _ (xcB m c (t.val / 7)) (xsB m c (t.val / 7)) (iblk m c 1 t) (iblk m c 2 t) (iblk m c 3 t) (iblk m c 4 t) H _ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HH]; · iexact HH
  isplitl [HM]; · iexact HM
  rw [em, eh]
  iintro ⟨H1, H2, H3, H4, H5, H6, H7, H8, HH, HM⟩
  isplitl [HH HM Hr]
  · iexists _; iexists _
    isplitr
    swap
    · isplitl [HH]; · iexact HH
      isplitl [HM]; · iexact HM
      iexact Hr
    ipureintro
    intro hne
    exact absurd (by omega : (t.val + 1) % 7 = 0) hne
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point: the three cases. -/
theorem body_obligation (c : Dev nD) : BodyObligation (dats (F := F) m 0 c) (defs₀ (F := F)) Variants.none () Set.univ := fun t => by
  rw [bigSep_W0, bigSep_W0, defs₀_row]
  by_cases h0 : t.val % 7 = 0
  · have h6 : t.val % 7 ≠ 6 := by omega
    have i5 : idle0 5 (grid0.coords t) = true := (idle5 t).trans (by simp [h0])
    have i6 : idle0 6 (grid0.coords t) = true := (idle6 t).trans (by simp [h0])
    have i7 : idle0 7 (grid0.coords t) = false := (idle7 t).trans (by simp [h0])
    have i8 : idle0 8 (grid0.coords t) = false := (idle8 t).trans (by simp [h0])
    have f5 : (win0 5).flush t = false := (flush5 t).trans (by simp [h0])
    have f6 : (win0 6).flush t = false := (flush6 t).trans (by simp [h0])
    refine triple_restated (sound_first m c t h0) rfl .rfl fun _ => ?_
    dsimp only
    try rw [i5]
    try rw [i6]
    try rw [i7]
    try rw [i8]
    try rw [f5]
    try rw [f6]
    exact .rfl
  by_cases h6 : t.val % 7 = 6
  · have i5 : idle0 5 (grid0.coords t) = false := (idle5 t).trans (by simp [h6])
    have i6 : idle0 6 (grid0.coords t) = false := (idle6 t).trans (by simp [h6])
    have i7 : idle0 7 (grid0.coords t) = true := (idle7 t).trans (by simp [h6])
    have i8 : idle0 8 (grid0.coords t) = true := (idle8 t).trans (by simp [h6])
    have f7 : (win0 7).flush t = true := (flush7 t).trans (by simp [h6])
    have f8 : (win0 8).flush t = true := (flush8 t).trans (by simp [h6])
    refine triple_restated (sound_last m c t h6) rfl .rfl fun _ => ?_
    dsimp only
    try rw [i5]
    try rw [i6]
    try rw [i7]
    try rw [i8]
    try rw [f7]
    try rw [f8]
    exact .rfl
  · have i5 : idle0 5 (grid0.coords t) = true := (idle5 t).trans (by simp [h6])
    have i6 : idle0 6 (grid0.coords t) = true := (idle6 t).trans (by simp [h6])
    have i7 : idle0 7 (grid0.coords t) = true := (idle7 t).trans (by simp [h0])
    have i8 : idle0 8 (grid0.coords t) = true := (idle8 t).trans (by simp [h0])
    have f5 : (win0 5).flush t = false := (flush5 t).trans (by simp [h6])
    have f6 : (win0 6).flush t = false := (flush6 t).trans (by simp [h6])
    have f7 : (win0 7).flush t = false := (flush7 t).trans (by simp [h6])
    have f8 : (win0 8).flush t = false := (flush8 t).trans (by simp [h6])
    refine triple_restated (sound_mid m c t h0 h6) rfl .rfl fun _ => ?_
    dsimp only
    try rw [i5]
    try rw [i6]
    try rw [i7]
    try rw [i8]
    try rw [f5]
    try rw [f6]
    try rw [f7]
    try rw [f8]
    exact .rfl

/-! ## The run -/

/-- What the launch holds at the start is the invariant at no tile. -/
theorem inv_of_rest (c : Dev nD) : Pipeline.ΦA spec0 c ⊢ inv m c 0 := by
  unfold Pipeline.ΦA inv
  rw [scopedRest0_eq]
  iintro ⟨⟨⟨%f, Hf⟩, ⟨%g, Hg⟩⟩, Hr⟩
  iexists f; iexists g
  isplitr
  swap
  · isplitl [Hf]; · rw [owns_whole]; iexact Hf
    isplitl [Hg]; · rw [owns_whole]; iexact Hg
    iexact Hr
  ipureintro
  intro h
  exact absurd rfl h

/-- And the invariant after the last tile gives it back. -/
theorem rest_of_inv (c : Dev nD) (n : ℕ) : inv m c n ⊢ Pipeline.ΦA spec0 c := by
  unfold Pipeline.ΦA inv
  rw [scopedRest0_eq]
  iintro ⟨%f, %g, -, Hf, Hg, Hr⟩
  isplitl [Hf Hg]
  · isplitl [Hf]
    · iexists f; rw [← owns_whole]; iexact Hf
    · iexists g; rw [← owns_whole]; iexact Hg
  · iexact Hr

set_option maxHeartbeats 800000 in
set_option backward.isDefEq.respectTransparency.types false in
/-- Every run ends with each array of the region holding what the proof data says, the host's last lines after it, and
    no semaphore raised. -/
theorem run_quiescent : θ_run (defs (F := F)) (onTc main) ⟨m, fun _ => 0, ρ⟩ fun r =>
    Pipeline.FramePost cfgs (dats m) 0 (Pipeline.afterTail₀ cfgs (dats m) 0 (V0 m) [hostOps1]) r ∧ r.2.sem = fun _ => 0 :=
  Pipeline.θ_run_frame_around_track_shared cfgs (dats m) 0 launch₀0 (defs₀ (F := F)) Variants.none m ρ main
    (hbody := fun c => (body_obligation m c).loose)
    (hq := fun c w _ => by dsimp only [dats])
    (howed := fun c t => by dsimp only [dats])
    (V₀ := V0 m) (opss := [hostOps1]) (hsub := sfx_sub) (hfresh := sfx_fresh) (hkeep := sfx_keeps)
    (hmain := hmain m Variants.none)
    (hA := fun c w => A_eq m c w)
    (hin := fun c => inv_of_rest m c)
    (hout := fun c => rest_of_inv m c _) (Q' := _)

/-- Every run leaves the three arguments as they were. -/
theorem unchanged : θ_run (defs (F := F)) (onTc (τ := τ) main) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_quiescent m ρ))

/-- The frame claim: every run ends, leaves the arguments as they were, and raises no semaphore. -/
theorem quiescent : θ_run (defs (F := F)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_quiescent m ρ))

end Cert.Kernel.Run

end
-- ==== Proof.PI.Body.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

set_option maxRecDepth 16384

/-! # The kernel body's three cases

The grid is 8 row blocks by 7 column tiles. At the first tile of a row block the body quantises the block of `x` and
clears the running maximum; at every tile it computes one tile of `h` into the scratch and folds the tile's magnitudes
into the running maximum; at the last tile it quantises `h` from the scratch. One theorem for each case. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The codes the body writes for a block of rows of `x`. -/
def codesOf (x : Vec F S512x3584 .bf16) : Vec F S512x3584 .fp8e4m3 := k0_pay9 (k0_pay3 x) (k0_pay4 x)

/-- The scales the body writes for a block of rows of `x`. -/
def scalesOf (x : Vec F S512x3584 .bf16) : Vec F S512x1 .f32 := k0_pay8 (F := F) (k0_pay5 x) 23#32

/-- One tile of `h` from codes, scales and the tile's two weight blocks and their scales. -/
def tileOf (xc : Vec F S512x3584 .fp8e4m3) (xs : Vec F S512x1 .f32) (wg wu : Vec F S3584x512 .fp8e4m3)
    (sg su : Vec F S1x512 .f32) : Vec F S512x512 .f32 := k0_pay12 xc xs wg wu sg su

/-- The running maximum after a tile, from the one before it. -/
def maxOf (xc : Vec F S512x3584 .fp8e4m3) (xs : Vec F S512x1 .f32) (wg wu : Vec F S3584x512 .fp8e4m3)
    (sg su : Vec F S1x512 .f32) (M : Vec F S512x128 .f32) : Vec F S512x128 .f32 :=
  k0_pay1 (k0_pay13 xc xs wg wu sg su) (k0_pay14 xc xs wg wu sg su M)

/-- The running maximum a row block starts from. -/
def maxZero : Vec F S512x128 .f32 := k0_pay10 (F := F)

section Reads

variable {Val : EltTy → Type} {κ : Kind} {sp : Space} {s : Shape} {e : EltTy}

/-- A load of a whole buffer reads it. -/
theorem readFull (v : View sig κ sp s e) (f : v.ty.Contents Val) {off : Fin s.rank → ℕ} (inb : ∀ a, off a + s.size a ≤ s.size a) :
    v.readAt Val (Rect.unit off (no_index s.size) inb).toLoadRect f = v.read Val f := View.readAt_full v f inb

/-- A store of a part of the buffer leaves the rest as it was. -/
theorem wrTile (v : View sig κ sp s e) (f : v.ty.Contents Val) {off size : Fin s.rank → ℕ} (inb : ∀ a, off a + size a ≤ s.size a)
    (w : (Rect.unit off size inb).shape.Idx → Val e) :
    v.read Val (v.writes Val f [⟨Rect.unit off size inb, w⟩]) = VecWindow.put (v.read Val f) off size w := by
  rw [View.read_writes_cons_put v f inb w [] rfl, View.writes_nil]

/-- A part that is the whole: what was put. -/
theorem putFull {α : Type} (x : s.Idx → α) {off size : Fin s.rank → ℕ} (w : ((a : Fin s.rank) → Fin (size a)) → α)
    (ho : ∀ a, off a = 0) (hs : size = s.size) :
    VecWindow.put x off size w = fun y => w (fun a => (y a).cast (by rw [hs])) := by
  subst hs
  funext y
  have h : ∀ a, off a ≤ (y a).val ∧ (y a).val < off a + s.size a := fun a => by
    have := (y a).isLt; have := ho a; omega
  unfold VecWindow.put
  rw [dif_pos h]
  refine congrArg w (funext fun a => Fin.ext ?_)
  show (y a).val - off a = (y a).val
  rw [ho a, Nat.sub_zero]

end Reads

/-- The first tile of a row block: codes and scales of the block of `x`, the first tile of `h` put into the scratch, the running maximum of that tile alone. -/
theorem body_first (c : Dev nD) (E : Set ℕ) (i : grid0.Coords) (h1 : k0_cond1 i = 1#1) (h2 : ¬ k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (x : Vec F S512x3584 .bf16) (wg wu : Vec F S3584x512 .fp8e4m3) (sg su : Vec F S1x512 .f32) (H : Vec F S512x3584 .f32) (K : PUnit → sProp 𝕄) :
    iprop(owns (c : Thread nD τ) arg2 fullShare x ∗ owns (c : Thread nD τ) arg3 fullShare wg ∗ owns (c : Thread nD τ) arg4 fullShare wu ∗ owns (c : Thread nD τ) arg5 fullShare sg ∗ owns (c : Thread nD τ) arg6 fullShare su ∗ (∃ d, owns (c : Thread nD τ) arg9 fullShare d) ∗ (∃ d, owns (c : Thread nD τ) arg10 fullShare d) ∗ owns (c : Thread nD τ) arg11 fullShare H ∗ (∃ d, owns (c : Thread nD τ) arg12 fullShare d)
        ∗ (iprop(owns (c : Thread nD τ) arg2 fullShare x ∗ owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare (codesOf x) ∗ owns (c : Thread nD τ) arg10 fullShare (scalesOf x) ∗ owns (c : Thread nD τ) arg11 fullShare (VecWindow.put H (k0_off1 i) S512x512.size (tileOf (codesOf x) (scalesOf x) wg wu sg su)) ∗ owns (c : Thread nD τ) arg12 fullShare (maxOf (codesOf x) (scalesOf x) wg wu sg su maxZero)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, ⟨%d12, %f12, -, H12⟩, Hk⟩
  subst hf2 hf3 hf4 hf5 hf6 hf11
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H10]
  · iexists _; isplitr
    swap; · iexact H10
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

/-- A tile that is neither the first nor the last: its part of `h` put into the scratch and its magnitudes folded into the running maximum. -/
theorem body_mid (c : Dev nD) (E : Set ℕ) (i : grid0.Coords) (h1 : ¬ k0_cond1 i = 1#1) (h2 : ¬ k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (xc : Vec F S512x3584 .fp8e4m3) (xs : Vec F S512x1 .f32) (wg wu : Vec F S3584x512 .fp8e4m3) (sg su : Vec F S1x512 .f32) (H : Vec F S512x3584 .f32) (M : Vec F S512x128 .f32) (K : PUnit → sProp 𝕄) :
    iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare xc ∗ owns (c : Thread nD τ) arg10 fullShare xs ∗ owns (c : Thread nD τ) arg11 fullShare H ∗ owns (c : Thread nD τ) arg12 fullShare M
        ∗ (iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg9 fullShare xc ∗ owns (c : Thread nD τ) arg10 fullShare xs ∗ owns (c : Thread nD τ) arg11 fullShare (VecWindow.put H (k0_off1 i) S512x512.size (tileOf xc xs wg wu sg su)) ∗ owns (c : Thread nD τ) arg12 fullShare (maxOf xc xs wg wu sg su M)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩, Hk⟩
  subst hf3 hf4 hf5 hf6 hf9 hf10 hf11 hf12
  sl_exec (disch := first | sl_exact h1 | sl_exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

/-- The last tile of a row block: as every tile, then the scale and the codes of the whole block of `h`. -/
theorem body_last (c : Dev nD) (E : Set ℕ) (i : grid0.Coords) (h1 : ¬ k0_cond1 i = 1#1) (h2 : k0_cond2 i = 1#1) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (xc : Vec F S512x3584 .fp8e4m3) (xs : Vec F S512x1 .f32) (wg wu : Vec F S3584x512 .fp8e4m3) (sg su : Vec F S1x512 .f32) (H : Vec F S512x3584 .f32) (M : Vec F S512x128 .f32) (K : PUnit → sProp 𝕄) :
    iprop(owns (c : Thread nD τ) arg3 fullShare wg ∗ owns (c : Thread nD τ) arg4 fullShare wu ∗ owns (c : Thread nD τ) arg5 fullShare sg ∗ owns (c : Thread nD τ) arg6 fullShare su ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare H ∗ owns (c : Thread nD τ) arg12 fullShare M
        ∗ (iprop(owns (c : Thread nD τ) arg3 fullShare wg ∗ owns (c : Thread nD τ) arg4 fullShare wu ∗ owns (c : Thread nD τ) arg5 fullShare sg ∗ owns (c : Thread nD τ) arg6 fullShare su ∗ owns (c : Thread nD τ) arg7 fullShare (k0_pay7 (maxOf xc xs wg wu sg su M)) ∗ owns (c : Thread nD τ) arg8 fullShare (k0_pay2 (k0_pay6 (maxOf xc xs wg wu sg su M)) (VecWindow.put H (k0_off1 i) S512x512.size (tileOf xc xs wg wu sg su))) ∗ owns (c : Thread nD τ) arg9 fullShare xc ∗ owns (c : Thread nD τ) arg10 fullShare xs ∗ owns (c : Thread nD τ) arg11 fullShare (VecWindow.put H (k0_off1 i) S512x512.size (tileOf xc xs wg wu sg su)) ∗ owns (c : Thread nD τ) arg12 fullShare (maxOf xc xs wg wu sg su M)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf3 hf4 hf5 hf6 hf9 hf10 hf11 hf12
  sl_exec (disch := first | sl_exact h1 | sl_exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H8]
  · iexists _; isplitr
    swap; · iexact H8
    ipureintro
    refine (View.read_writes_full _ _ _ _ _).trans ?_; (sl_unfold_run_names; simp only [codesOf, scalesOf, tileOf, maxOf, maxZero, View.readCov, readFull, wrTile]; try (simp (disch := first | decide | rfl) only [putFull]; rfl))

  isplitl [H9]
  · iexists f9; isplitr; · ipureintro; rfl
    iexact H9
  isplitl [H10]
  · iexists f10; isplitr; · ipureintro; rfl
    iexact H10
  isplitl [H11]
  · iexists _; isplitr
    swap; · iexact H11
    ipureintro
    (sl_unfold_run_names; simp only [codesOf, scalesOf, tileOf, maxOf, maxZero, View.readCov, readFull, wrTile]; try (simp (disch := first | decide | rfl) only [putFull]; rfl))

  iexists _; isplitr
  swap; · iexact H12
  ipureintro
  refine (View.read_writes_full _ _ _ _ _).trans ?_; (sl_unfold_run_names; simp only [codesOf, scalesOf, tileOf, maxOf, maxZero, View.readCov, readFull, wrTile]; try (simp (disch := first | decide | rfl) only [putFull]; rfl))

end Cert.KernelIdeal.Run

end
-- ==== Proof.PI.Run.lean ====
module

public import proofs.«01_k».proof.Proof.PI.Body
public import Idealize.ShloMosaic.Lib.Pipeline.TableIdle
public import Idealize.ShloMosaic.Lib.Claim

@[expose] public section

set_option maxRecDepth 16384

/-! # The kernel's run

What every staging buffer and both scratches hold at every grid point, the body's obligation at every point from the
three cases of the body, and the run of the whole program with its frame. Point `t` is column tile `t % 7` of row block
`t / 7`. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values of a row block -/

/-- The grid point of column tile `j` of row block `b`. -/
def pt (b j : ℕ) : Fin cfg0.N := ⟨(b * 7 + j) % 56, by rw [show cfg0.N = 56 from N_0]; omega⟩

theorem pt_self (t : Fin cfg0.N) : pt (t.val / 7) (t.val % 7) = t := Fin.ext (by
  have h : t.val < 56 := t.isLt.trans_eq N_0
  show (t.val / 7 * 7 + t.val % 7) % 56 = t.val
  omega)

theorem pt_first (t : Fin cfg0.N) (h : t.val % 7 = 0) : pt (t.val / 7) 0 = t := by
  conv_rhs => rw [← pt_self t, h]

/-- The codes of row block `b` of `x`. -/
def xcB (c : Dev nD) (b : ℕ) : Vec F S512x3584 .fp8e4m3 := codesOf (iblk m c 0 (pt b 0))

/-- The scales of row block `b` of `x`. -/
def xsB (c : Dev nD) (b : ℕ) : Vec F S512x1 .f32 := scalesOf (iblk m c 0 (pt b 0))

/-- Tile `j` of row block `b` of `h`. -/
def tileB (c : Dev nD) (b j : ℕ) : Vec F S512x512 .f32 :=
  tileOf (xcB m c b) (xsB m c b) (iblk m c 1 (pt b j)) (iblk m c 2 (pt b j)) (iblk m c 3 (pt b j)) (iblk m c 4 (pt b j))

/-- The running maximum of row block `b` after its first `n` tiles. -/
def maxB (c : Dev nD) (b : ℕ) : ℕ → Vec F S512x128 .f32
  | 0 => maxZero
  | n + 1 => maxOf (xcB m c b) (xsB m c b) (iblk m c 1 (pt b n)) (iblk m c 2 (pt b n)) (iblk m c 3 (pt b n)) (iblk m c 4 (pt b n)) (maxB c b n)

/-- The index within its tile of a column of the row block. -/
def inTile (y : S512x3584.Idx) : S512x512.Idx := fun a => match a with
  | ⟨0, _⟩ => ⟨(y 0).val, (y 0).isLt⟩
  | ⟨1, _⟩ => ⟨(y 1).val % 512, Nat.mod_lt _ (by decide)⟩

/-- Row block `b` of `h`, from its seven tiles. -/
def hidB (c : Dev nD) (b : ℕ) : Vec F S512x3584 .f32 := fun y => tileB m c b ((y 1).val / 512) (inTile y)

/-- The scales of row block `b` of `h`. -/
def hsB (c : Dev nD) (b : ℕ) : Vec F S512x1 .f32 := k0_pay7 (maxB m c b 7)

/-- The codes of row block `b` of `h`. -/
def hcB (c : Dev nD) (b : ℕ) : Vec F S512x3584 .fp8e4m3 := k0_pay2 (k0_pay6 (maxB m c b 7)) (hidB m c b)

/-- Putting tile `j` into a scratch that holds the tiles before it extends it by one. -/
theorem put_tile (c : Dev nD) (b j : ℕ) (hj : j < 7) (H : Vec F S512x3584 .f32) (off : Fin 2 → ℕ) (ho : off = ![0, 512 * j])
    (hH : ∀ y : S512x3584.Idx, (y 1).val < 512 * j → H y = hidB m c b y) (y : S512x3584.Idx) (hy : (y 1).val < 512 * (j + 1)) :
    VecWindow.put (s := S512x3584) H off S512x512.size (tileB m c b j) y = hidB m c b y := by
  subst ho
  unfold VecWindow.put
  split
  · rename_i h
    have h1 : 512 * j ≤ (y 1).val := (h 1).1
    have hq : (y 1).val / 512 = j := by omega
    unfold hidB
    rw [hq]
    refine congrArg (tileB m c b j) (funext fun a => ?_)
    fin_cases a
    · exact Fin.ext (Nat.sub_zero _)
    · refine Fin.ext ?_
      show (y 1).val - 512 * j = (y 1).val % 512
      omega
  · rename_i h
    refine hH y ?_
    by_contra hc
    refine h fun a => ?_
    fin_cases a
    · exact ⟨Nat.zero_le _, by have h0 : (y 0).val < 512 := (y 0).isLt; show (y 0).val < 0 + 512; omega⟩
    · exact ⟨by show 512 * j ≤ (y 1).val; omega, by show (y 1).val < 512 * j + 512; omega⟩

/-! ## The grid's conditions in closed form -/

theorem cond1_iff : ∀ t : Fin cfg0.N, k0_cond1 (grid0.coords t) = 1#1 ↔ t.val % 7 = 0 := by decide +kernel
theorem cond2_iff : ∀ t : Fin cfg0.N, k0_cond2 (grid0.coords t) = 1#1 ↔ t.val % 7 = 6 := by decide +kernel
theorem off_eq : ∀ t : Fin cfg0.N, k0_off1 (grid0.coords t) = ![0, 512 * (t.val % 7)] := by decide +kernel

theorem idle5 (t : Fin cfg0.N) : cfg0.idle 5 (cfg0.grid.coords t) = !decide (t.val % 7 = 6) := by
  show (!(k0_cond2 (grid0.coords t) == 1#1)) = _
  congr 1; rw [Bool.eq_iff_iff, beq_iff_eq, decide_eq_true_iff]; exact cond2_iff t
theorem idle6 (t : Fin cfg0.N) : cfg0.idle 6 (cfg0.grid.coords t) = !decide (t.val % 7 = 6) := idle5 t
theorem idle7 (t : Fin cfg0.N) : cfg0.idle 7 (cfg0.grid.coords t) = !decide (t.val % 7 = 0) := by
  show (!(k0_cond1 (grid0.coords t) == 1#1)) = _
  congr 1; rw [Bool.eq_iff_iff, beq_iff_eq, decide_eq_true_iff]; exact cond1_iff t
theorem idle8 (t : Fin cfg0.N) : cfg0.idle 8 (cfg0.grid.coords t) = !decide (t.val % 7 = 0) := idle7 t

theorem flush5 (t : Fin cfg0.N) : (cfg0.win 5).flush t = decide (t.val % 7 = 6) := by
  rw [Bool.eq_iff_iff, decide_eq_true_iff]; exact flush0_5 t
theorem flush6 (t : Fin cfg0.N) : (cfg0.win 6).flush t = decide (t.val % 7 = 6) := by
  rw [Bool.eq_iff_iff, decide_eq_true_iff]; exact flush0_6 t
theorem flush7 (t : Fin cfg0.N) : (cfg0.win 7).flush t = decide (t.val % 7 = 6) := by
  rw [Bool.eq_iff_iff, decide_eq_true_iff]; exact flush0_7 t
theorem flush8 (t : Fin cfg0.N) : (cfg0.win 8).flush t = decide (t.val % 7 = 6) := by
  rw [Bool.eq_iff_iff, decide_eq_true_iff]; exact flush0_8 t

/-! ## The proof data -/

/-- What the scratches hold before point `n`: within a row block, the tiles done so far and their running maximum. -/
def inv (c : Dev nD) (n : ℕ) : sProp 𝕄 :=
  iprop(∃ (H : Vec F S512x3584 .f32) (M : Vec F S512x128 .f32),
    ⌜n % 7 ≠ 0 → (∀ y : S512x3584.Idx, (y 1).val < 512 * (n % 7) → H y = hidB m c (n / 7) y) ∧ M = maxB m c (n / 7) (n % 7)⌝
    ∗ owns (c : Thread nD τ) (Memref.whole cc0_scratch0) fullShare H
    ∗ owns (c : Thread nD τ) (Memref.whole cc0_scratch1) fullShare M
    ∗ ∃ r, prngReg c r)

/-- The proof data on core `c`: the arrays as the region finds them; after the body each input's buffer at its block,
    the outputs' at their row block's scales and codes; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsB m c (t.val / 7)
    | ⟨6, _⟩ => hcB m c (t.val / 7)
    | ⟨7, _⟩ => xcB m c (t.val / 7)
    | ⟨8, _⟩ => xsB m c (t.val / 7)
  Φ n := inv m c n.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hsB m c (t.val / 7) := by dsimp only [dats]
theorem after6 (c : Dev nD) (t : Fin cfg0.N) : (dats m 0 c).after 6 t = hcB m c (t.val / 7) := by dsimp only [dats]
theorem after7 (c : Dev nD) (t : Fin cfg0.N) : (dats m 0 c).after 7 t = xcB m c (t.val / 7) := by dsimp only [dats]
theorem after8 (c : Dev nD) (t : Fin cfg0.N) : (dats m 0 c).after 8 t = xsB m c (t.val / 7) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The buffers of the codes and scales of `x` hold nothing of note exactly at the first tile of a row block. -/
theorem fresh7 : ∀ n, n ≤ cfg0.N → cfg0.fresh 7 n = decide (n % 7 = 0) :=
  Pipeline.Cfg.fresh_tab (cfg := cfg0) 7 (fun n => decide (n % 7 = 0)) (by decide) fun t => by
    rw [flush7, idle7, Bool.eq_iff_iff]
    simp only [Bool.or_eq_true, Bool.and_eq_true, Bool.not_eq_true', decide_eq_true_iff, decide_eq_false_iff_not]
    omega
theorem fresh8 : ∀ n, n ≤ cfg0.N → cfg0.fresh 8 n = decide (n % 7 = 0) :=
  Pipeline.Cfg.fresh_tab (cfg := cfg0) 8 (fun n => decide (n % 7 = 0)) (by decide) fun t => by
    rw [flush8, idle8, Bool.eq_iff_iff]
    simp only [Bool.or_eq_true, Bool.and_eq_true, Bool.not_eq_true', decide_eq_true_iff, decide_eq_false_iff_not]
    omega

/-- Past the first tile the body finds the row block's codes of `x` where the first tile left them. -/
theorem before7 (c : Dev nD) (t : Fin cfg0.N) (h : t.val % 7 ≠ 0) (d) : (dats m 0 c).before 7 t d = xcB m c (t.val / 7) := by
  refine ((dats m 0 c).before_out_traj 7 rfl (fun _ _ => rfl) (fun s hs hi hf => ?_) t.val t rfl d).trans ?_
  · rw [fresh7 s.val s.isLt.le, decide_eq_false_iff_not] at hf
    rw [after7, after7]
    congr 1; show s.val / 7 = (s.val - 1) / 7; omega
  · rw [fresh7 t.val t.isLt.le, decide_eq_false h, if_neg Bool.false_ne_true, after7]
    congr 1; show (t.val - 1) / 7 = t.val / 7; omega

/-- And the row block's scales of `x`. -/
theorem before8 (c : Dev nD) (t : Fin cfg0.N) (h : t.val % 7 ≠ 0) (d) : (dats m 0 c).before 8 t d = xsB m c (t.val / 7) := by
  refine ((dats m 0 c).before_out_traj 8 rfl (fun _ _ => rfl) (fun s hs hi hf => ?_) t.val t rfl d).trans ?_
  · rw [fresh8 s.val s.isLt.le, decide_eq_false_iff_not] at hf
    rw [after8, after8]
    congr 1; show s.val / 7 = (s.val - 1) / 7; omega
  · rw [fresh8 t.val t.isLt.le, decide_eq_false h, if_neg Bool.false_ne_true, after8]
    congr 1; show (t.val - 1) / 7 = t.val / 7; omega

/-! ## The body at a point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves, the four results' buffers apart. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ R)

/-- The results' buffers at the first tile: those of `h` as handed, those of `x` written. -/
def restFirst (c : Dev nD) (t : Fin cfg0.N) : sProp 𝕄 :=
  iprop((∃ d, owns (c : Thread nD τ) (st0_5 t) fullShare ((dats m 0 c).before 5 t d))
    ∗ (∃ d, owns (c : Thread nD τ) (st0_6 t) fullShare ((dats m 0 c).before 6 t d))
    ∗ owns (c : Thread nD τ) (st0_7 t) fullShare ((dats m 0 c).after 7 t)
    ∗ owns (c : Thread nD τ) (st0_8 t) fullShare ((dats m 0 c).after 8 t))

/-- At a middle tile: all as handed. -/
def restMid (c : Dev nD) (t : Fin cfg0.N) : sProp 𝕄 :=
  iprop((∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- At the last tile: all at the row block's values. -/
def restLast (c : Dev nD) (t : Fin cfg0.N) : sProp 𝕄 :=
  iprop(owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem Phi_succ (c : Dev nD) (t : Fin cfg0.N) : (dats m 0 c).Φ t.succ = inv m c (t.val + 1) := by dsimp only [dats]; rfl
theorem Phi_cast (c : Dev nD) (t : Fin cfg0.N) : (dats m 0 c).Φ t.castSucc = inv m c t.val := by dsimp only [dats]; rfl

/-- The running maximum after one more tile. -/
theorem maxB_succ (c : Dev nD) (t : Fin cfg0.N) :
    maxOf (xcB m c (t.val / 7)) (xsB m c (t.val / 7)) (iblk m c 1 t) (iblk m c 2 t) (iblk m c 3 t) (iblk m c 4 t) (maxB m c (t.val / 7) (t.val % 7))
      = maxB m c (t.val / 7) (t.val % 7 + 1) := by
  conv_rhs => unfold maxB
  rw [pt_self]

/-- The tile of point `t`. -/
theorem tileB_self (c : Dev nD) (t : Fin cfg0.N) :
    tileOf (xcB m c (t.val / 7)) (xsB m c (t.val / 7)) (iblk m c 1 t) (iblk m c 2 t) (iblk m c 3 t) (iblk m c 4 t)
      = tileB m c (t.val / 7) (t.val % 7) := by
  unfold tileB; rw [pt_self]

theorem sound_first (c : Dev nD) (t : Fin cfg0.N) (h : t.val % 7 = 0) :
    bodyPre m c t ⊢ wp frame (wpE (defs₀ (F := F)) Variants.none c none) Set.univ (bodyAt0 t) (fun _ => bodyPost m c t (restFirst m c t)) := by
  have hlt : t.val < 56 := t.isLt.trans_eq N_0
  unfold bodyPre bodyPost restFirst bodyAt0
  simp only [before0, before1, before2, before3, before4]
  rw [Phi_succ, Phi_cast,
    show (dats m 0 c).owesAt () t.succ = (dats m 0 c).owesAt () t.castSucc from rfl,
    after0, after1, after2, after3, after4, after7, after8]
  unfold inv
  iintro ⟨⟨%H, %M, -, HH, HM, Hr⟩, Ho, ⟨%d0, H0⟩, ⟨%d1, H1⟩, ⟨%d2, H2⟩, ⟨%d3, H3⟩, ⟨%d4, H4⟩, H5, H6, ⟨%d7, H7⟩, ⟨%d8, H8⟩⟩
  iapply (body_first c Set.univ (grid0.coords t) ((cond1_iff t).mpr h) (fun h' => by have := (cond2_iff t).mp h'; omega)
    _ _ _ _ _ _ _ _ _ _ _ _ _ _ _ _ _ _ _ _ _ _ (iblk m c 0 t) (iblk m c 1 t) (iblk m c 2 t) (iblk m c 3 t) (iblk m c 4 t) H _)
  isplitl [H0]; · iexact H0
  isplitl [H1]; · iexact H1
  isplitl [H2]; · iexact H2
  isplitl [H3]; · iexact H3
  isplitl [H4]; · iexact H4
  isplitl [H7]; · iexists _; iexact H7
  isplitl [H8]; · iexists _; iexact H8
  isplitl [HH]; · iexact HH
  isplitl [HM]; · iexists _; iexact HM
  iintro ⟨H0, H1, H2, H3, H4, H7, H8, HH, HM⟩
  have ex : codesOf (iblk m c 0 t) = xcB m c (t.val / 7) := by unfold xcB; rw [pt_first t h]
  have es : scalesOf (iblk m c 0 t) = xsB m c (t.val / 7) := by unfold xsB; rw [pt_first t h]
  rw [ex, es]
  isplitl [HH HM Hr]
  · iexists _; iexists _
    isplitr
    swap
    · isplitl [HH]; · iexact HH
      isplitl [HM]; · iexact HM
      iexact Hr
    ipureintro
    intro _
    have e1 : (t.val + 1) / 7 = t.val / 7 := by omega
    have e2 : (t.val + 1) % 7 = t.val % 7 + 1 := by omega
    rw [e1, e2]
    refine ⟨fun y hy => ?_, ?_⟩
    · rw [tileB_self]
      exact put_tile m c _ _ (by omega) H _ (off_eq t) (fun y hy => by omega) y hy
    · rw [← maxB_succ, h]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_mid (c : Dev nD) (t : Fin cfg0.N) (h0 : t.val % 7 ≠ 0) (h6 : t.val % 7 ≠ 6) :
    bodyPre m c t ⊢ wp frame (wpE (defs₀ (F := F)) Variants.none c none) Set.univ (bodyAt0 t) (fun _ => bodyPost m c t (restMid m c t)) := by
  have hlt : t.val < 56 := t.isLt.trans_eq N_0
  unfold bodyPre bodyPost restMid bodyAt0
  simp only [before0, before1, before2, before3, before4, before7 m c t h0, before8 m c t h0]
  rw [Phi_succ, Phi_cast,
    show (dats m 0 c).owesAt () t.succ = (dats m 0 c).owesAt () t.castSucc from rfl,
    after0, after1, after2, after3, after4]
  unfold inv
  iintro ⟨⟨%H, %M, %hHM, HH, HM, Hr⟩, Ho, ⟨%d0, H0⟩, ⟨%d1, H1⟩, ⟨%d2, H2⟩, ⟨%d3, H3⟩, ⟨%d4, H4⟩, H5, H6, ⟨%d7, H7⟩, ⟨%d8, H8⟩⟩
  obtain ⟨hH, rfl⟩ := hHM h0
  iapply (body_mid c Set.univ (grid0.coords t) (fun h' => h0 ((cond1_iff t).mp h')) (fun h' => h6 ((cond2_iff t).mp h'))
    _ _ _ _ _ _ _ _ _ _ _ _ _ _ _ _ _ _ _ _ _ _ (xcB m c (t.val / 7)) (xsB m c (t.val / 7)) (iblk m c 1 t) (iblk m c 2 t) (iblk m c 3 t) (iblk m c 4 t) H _ _)
  isplitl [H1]; · iexact H1
  isplitl [H2]; · iexact H2
  isplitl [H3]; · iexact H3
  isplitl [H4]; · iexact H4
  isplitl [H7]; · iexact H7
  isplitl [H8]; · iexact H8
  isplitl [HH]; · iexact HH
  isplitl [HM]; · iexact HM
  iintro ⟨H1, H2, H3, H4, H7, H8, HH, HM⟩
  isplitl [HH HM Hr]
  · iexists _; iexists _
    isplitr
    swap
    · isplitl [HH]; · iexact HH
      isplitl [HM]; · iexact HM
      iexact Hr
    ipureintro
    intro _
    have e1 : (t.val + 1) / 7 = t.val / 7 := by omega
    have e2 : (t.val + 1) % 7 = t.val % 7 + 1 := by omega
    rw [e1, e2]
    refine ⟨fun y hy => ?_, maxB_succ m c t⟩
    rw [tileB_self]
    exact put_tile m c _ _ (by omega) H _ (off_eq t) hH y hy
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

theorem sound_last (c : Dev nD) (t : Fin cfg0.N) (h6 : t.val % 7 = 6) :
    bodyPre m c t ⊢ wp frame (wpE (defs₀ (F := F)) Variants.none c none) Set.univ (bodyAt0 t) (fun _ => bodyPost m c t (restLast m c t)) := by
  have hlt : t.val < 56 := t.isLt.trans_eq N_0
  have h0 : t.val % 7 ≠ 0 := by omega
  unfold bodyPre bodyPost restLast bodyAt0
  simp only [before0, before1, before2, before3, before4, before7 m c t h0, before8 m c t h0]
  rw [Phi_succ, Phi_cast,
    show (dats m 0 c).owesAt () t.succ = (dats m 0 c).owesAt () t.castSucc from rfl,
    after0, after1, after2, after3, after4, after5, after6, after7, after8]
  unfold inv
  iintro ⟨⟨%H, %M, %hHM, HH, HM, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hH, rfl⟩ := hHM h0
  have em : maxOf (xcB m c (t.val / 7)) (xsB m c (t.val / 7)) (iblk m c 1 t) (iblk m c 2 t) (iblk m c 3 t) (iblk m c 4 t) (maxB m c (t.val / 7) (t.val % 7))
      = maxB m c (t.val / 7) 7 := by rw [maxB_succ, h6]
  have eh : VecWindow.put (s := S512x3584) H (k0_off1 (grid0.coords t)) S512x512.size
        (tileOf (xcB m c (t.val / 7)) (xsB m c (t.val / 7)) (iblk m c 1 t) (iblk m c 2 t) (iblk m c 3 t) (iblk m c 4 t))
      = hidB m c (t.val / 7) := funext fun y => by
    rw [tileB_self]
    exact put_tile m c _ _ (by omega) H _ (off_eq t) hH y (by have hy : (y 1).val < 3584 := (y 1).isLt; omega)
  iapply (body_last c Set.univ (grid0.coords t) (fun h' => h0 ((cond1_iff t).mp h')) ((cond2_iff t).mpr h6)
    _ _ _ _ _ _ _ _ _ _ _ _ _ _ _ _ _ _ _ _ _ _ (xcB m c (t.val / 7)) (xsB m c (t.val / 7)) (iblk m c 1 t) (iblk m c 2 t) (iblk m c 3 t) (iblk m c 4 t) H _ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HH]; · iexact HH
  isplitl [HM]; · iexact HM
  rw [em, eh]
  iintro ⟨H1, H2, H3, H4, H5, H6, H7, H8, HH, HM⟩
  isplitl [HH HM Hr]
  · iexists _; iexists _
    isplitr
    swap
    · isplitl [HH]; · iexact HH
      isplitl [HM]; · iexact HM
      iexact Hr
    ipureintro
    intro hne
    exact absurd (by omega : (t.val + 1) % 7 = 0) hne
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point: the three cases. -/
theorem body_obligation (c : Dev nD) : BodyObligation (dats (F := F) m 0 c) (defs₀ (F := F)) Variants.none () Set.univ := fun t => by
  rw [bigSep_W0, bigSep_W0, defs₀_row]
  by_cases h0 : t.val % 7 = 0
  · have h6 : t.val % 7 ≠ 6 := by omega
    have i5 : idle0 5 (grid0.coords t) = true := (idle5 t).trans (by simp [h0])
    have i6 : idle0 6 (grid0.coords t) = true := (idle6 t).trans (by simp [h0])
    have i7 : idle0 7 (grid0.coords t) = false := (idle7 t).trans (by simp [h0])
    have i8 : idle0 8 (grid0.coords t) = false := (idle8 t).trans (by simp [h0])
    have f5 : (win0 5).flush t = false := (flush5 t).trans (by simp [h0])
    have f6 : (win0 6).flush t = false := (flush6 t).trans (by simp [h0])
    refine triple_restated (sound_first m c t h0) rfl .rfl fun _ => ?_
    dsimp only
    try rw [i5]
    try rw [i6]
    try rw [i7]
    try rw [i8]
    try rw [f5]
    try rw [f6]
    exact .rfl
  by_cases h6 : t.val % 7 = 6
  · have i5 : idle0 5 (grid0.coords t) = false := (idle5 t).trans (by simp [h6])
    have i6 : idle0 6 (grid0.coords t) = false := (idle6 t).trans (by simp [h6])
    have i7 : idle0 7 (grid0.coords t) = true := (idle7 t).trans (by simp [h6])
    have i8 : idle0 8 (grid0.coords t) = true := (idle8 t).trans (by simp [h6])
    have f7 : (win0 7).flush t = true := (flush7 t).trans (by simp [h6])
    have f8 : (win0 8).flush t = true := (flush8 t).trans (by simp [h6])
    refine triple_restated (sound_last m c t h6) rfl .rfl fun _ => ?_
    dsimp only
    try rw [i5]
    try rw [i6]
    try rw [i7]
    try rw [i8]
    try rw [f7]
    try rw [f8]
    exact .rfl
  · have i5 : idle0 5 (grid0.coords t) = true := (idle5 t).trans (by simp [h6])
    have i6 : idle0 6 (grid0.coords t) = true := (idle6 t).trans (by simp [h6])
    have i7 : idle0 7 (grid0.coords t) = true := (idle7 t).trans (by simp [h0])
    have i8 : idle0 8 (grid0.coords t) = true := (idle8 t).trans (by simp [h0])
    have f5 : (win0 5).flush t = false := (flush5 t).trans (by simp [h6])
    have f6 : (win0 6).flush t = false := (flush6 t).trans (by simp [h6])
    have f7 : (win0 7).flush t = false := (flush7 t).trans (by simp [h6])
    have f8 : (win0 8).flush t = false := (flush8 t).trans (by simp [h6])
    refine triple_restated (sound_mid m c t h0 h6) rfl .rfl fun _ => ?_
    dsimp only
    try rw [i5]
    try rw [i6]
    try rw [i7]
    try rw [i8]
    try rw [f5]
    try rw [f6]
    try rw [f7]
    try rw [f8]
    exact .rfl

/-! ## The run -/

/-- What the launch holds at the start is the invariant at no tile. -/
theorem inv_of_rest (c : Dev nD) : Pipeline.ΦA spec0 c ⊢ inv m c 0 := by
  unfold Pipeline.ΦA inv
  rw [scopedRest0_eq]
  iintro ⟨⟨⟨%f, Hf⟩, ⟨%g, Hg⟩⟩, Hr⟩
  iexists f; iexists g
  isplitr
  swap
  · isplitl [Hf]; · rw [owns_whole]; iexact Hf
    isplitl [Hg]; · rw [owns_whole]; iexact Hg
    iexact Hr
  ipureintro
  intro h
  exact absurd rfl h

/-- And the invariant after the last tile gives it back. -/
theorem rest_of_inv (c : Dev nD) (n : ℕ) : inv m c n ⊢ Pipeline.ΦA spec0 c := by
  unfold Pipeline.ΦA inv
  rw [scopedRest0_eq]
  iintro ⟨%f, %g, -, Hf, Hg, Hr⟩
  isplitl [Hf Hg]
  · isplitl [Hf]
    · iexists f; rw [← owns_whole]; iexact Hf
    · iexists g; rw [← owns_whole]; iexact Hg
  · iexact Hr

set_option maxHeartbeats 800000 in
set_option backward.isDefEq.respectTransparency.types false in
/-- Every run ends with each array of the region holding what the proof data says, the host's last lines after it, and
    no semaphore raised. -/
theorem run_quiescent : θ_run (defs (F := F)) (onTc main) ⟨m, fun _ => 0, ρ⟩ fun r =>
    Pipeline.FramePost cfgs (dats m) 0 (Pipeline.afterTail₀ cfgs (dats m) 0 (V0 m) [hostOps1]) r ∧ r.2.sem = fun _ => 0 :=
  Pipeline.θ_run_frame_around_track_shared cfgs (dats m) 0 launch₀0 (defs₀ (F := F)) Variants.none m ρ main
    (hbody := fun c => (body_obligation m c).loose)
    (hq := fun c w _ => by dsimp only [dats])
    (howed := fun c t => by dsimp only [dats])
    (V₀ := V0 m) (opss := [hostOps1]) (hsub := sfx_sub) (hfresh := sfx_fresh) (hkeep := sfx_keeps)
    (hmain := hmain m Variants.none)
    (hA := fun c w => A_eq m c w)
    (hin := fun c => inv_of_rest m c)
    (hout := fun c => rest_of_inv m c _) (Q' := _)

/-- Every run leaves the three arguments as they were. -/
theorem unchanged : θ_run (defs (F := F)) (onTc (τ := τ) main) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_quiescent m ρ))

/-- The frame claim: every run ends, leaves the arguments as they were, and raises no semaphore. -/
theorem quiescent : θ_run (defs (F := F)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_quiescent m ρ))

end Cert.KernelIdeal.Run

end
-- ==== Proof.V.Quant.lean ====
module

public import Idealize.ShloMosaic.Lib.Pointwise
public import Mathlib.Analysis.SpecialFunctions.Log.Basic

@[expose] public section

/-! # The quantiser's power of two

For a row's largest absolute value `a` the reference takes the power of two with exponent
`floor(log (a/448) / log 2) + 1`, clipped to [-125, 126]; the kernel counts the powers of two from `2^-125` to `2^125`
that are at most `a/448` and builds the float from its exponent field. Over the extended reals the two are the same
number (`scale_eq`), and so are the two inverses (`inv_eq`). -/

noncomputable section

namespace Cert.Quant

open Idealize.ShloMosaic

/-- `a / 448` as both programs compute it. -/
def ratio (a : EReal) : EReal := a * Ideal.ofBits .f32 0x3B124925#32

/-- The largest absolute value of a row, from minus infinity. -/
def rowMax {n : ℕ} (f : Fin n → EReal) : EReal :=
  Finset.univ.fold max (Ideal.ofBits .f32 0xFF800000#32) fun k => max (f k) (-f k)

/-- The reference's exponent of a row. -/
def expo (a : EReal) : EReal :=
  if a = 0 ∨ ratio a = ⊤ then 0
  else min 126 (max (-125) (Ideal.liftRound Int.floor (Ideal.div (Ideal.log (ratio a)) ((Real.log 2 : ℝ) : EReal)) + 1))

/-- The word of the `j`-th number the kernel compares with. -/
def powWord (j : ℕ) : BitVec 32 :=
  Scalar.select (IntOp.cmpi .slt (BitVec.ofNat 32 j) 251#32)
    (IntOp.shli .vector (IntOp.addi (BitVec.ofNat 32 j) 2#32) 23#32) 2139095040#32

/-- How many of those numbers are at most `v`, as the kernel's word. -/
def countWord (v : EReal) : BitVec 32 :=
  Finset.univ.fold IntOp.addi (0#32) fun j : Fin 256 => if Ideal.ofBits .f32 (powWord j.val) ≤ v then 1#32 else 0#32

/-- The kernel's exponent of a row, as a word. -/
def kexpo (a : EReal) : BitVec 32 :=
  if a = 0 then 0#32
  else Scalar.select (IntOp.andi (BitVec.ofBool (decide (0 < ratio a)))
      (BitVec.ofBool (decide (ratio a < Ideal.ofBits .f32 2139095040#32))))
    (IntOp.subi (countWord (ratio a)) 125#32) 0#32

/-- The float with exponent field `e + 127`, as the kernel builds it. -/
def powOf (e : BitVec 32) : EReal := Ideal.ofBits .f32 (IntOp.shli .vector (IntOp.addi e 127#32) 23#32)

/-- The scale of a row. -/
def scale (a : EReal) : EReal := Ideal.exp2 (expo a)

/-- The inverse of the scale. -/
def inv (a : EReal) : EReal := Ideal.exp2 (0 - expo a)

/-- An entry's code, from the entry and its row's largest absolute value. -/
def code (x a : EReal) : EReal :=
  min (Ideal.ofBits .f32 0x43E00000#32) (max (Ideal.ofBits .f32 0xC3E00000#32) (x * inv a))

/-! ## Words -/

/-- The word `n << 23` with `1 ≤ n ≤ 254` is the float `2^(n - 127)`. -/
theorem ofBits_shl (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have hs : IntOp.shli .vector (BitVec.ofNat 32 n) 23#32 = BitVec.ofNat 32 (n * 2 ^ 23) := by
    unfold IntOp.shli
    rw [if_pos (by decide)]
    apply BitVec.eq_of_toNat_eq
    simp [BitVec.toNat_shiftLeft, Nat.shiftLeft_eq]
  rw [hs]
  have e1 : ((BitVec.ofNat 32 (n * 2 ^ 23)).extractLsb' 23 8).toNat = n := by
    rw [BitVec.extractLsb'_toNat, BitVec.toNat_ofNat, Nat.shiftRight_eq_div_pow]; omega
  have e2 : ((BitVec.ofNat 32 (n * 2 ^ 23)).extractLsb' 0 23).toNat = 0 := by
    rw [BitVec.extractLsb'_toNat, BitVec.toNat_ofNat, Nat.shiftRight_eq_div_pow]; omega
  have e3 : ((BitVec.ofNat 32 (n * 2 ^ 23)).extractLsb' (8 + 23) 1 == 1#1) = false := by
    have : (BitVec.ofNat 32 (n * 2 ^ 23)).extractLsb' (8 + 23) 1 = 0#1 := by
      apply BitVec.eq_of_toNat_eq
      rw [BitVec.extractLsb'_toNat, BitVec.toNat_ofNat, Nat.shiftRight_eq_div_pow]
      simp only [BitVec.toNat_ofNat]; omega
    rw [this]; rfl
  simp only [Ideal.ofBits, Ideal.ieee, e1, e2, e3]
  rw [if_neg (by omega), if_neg (by omega)]
  congr 1
  rw [if_neg Bool.false_ne_true, add_zero, one_mul]
  have : ((n : ℤ) - 127) = 23 + ((n : ℤ) - (2 ^ (8 - 1) - 1) - (23 : ℕ)) := by norm_num
  rw [this, zpow_add₀ (by norm_num)]
  norm_num

theorem ofBits_inf : Ideal.ofBits .f32 2139095040#32 = ⊤ := by
  simp only [Ideal.ofBits, Ideal.ieee]; rfl

theorem ofBits_ninf : Ideal.ofBits .f32 0xFF800000#32 = ⊥ := by
  simp only [Ideal.ofBits, Ideal.ieee]; rfl

theorem slt_251 : ∀ j : Fin 256, IntOp.cmpi .slt (BitVec.ofNat 32 j.val) 251#32 = if j.val < 251 then 1 else 0 := by
  decide +kernel

theorem powWord_lt (j : ℕ) (h : j < 251) : Ideal.ofBits .f32 (powWord j) = (((2 : ℝ) ^ ((j : ℤ) - 125) : ℝ) : EReal) := by
  have hc : IntOp.cmpi .slt (BitVec.ofNat 32 j) 251#32 = 1 := (slt_251 ⟨j, by omega⟩).trans (if_pos h)
  unfold powWord Scalar.select
  rw [if_pos hc]
  have : IntOp.addi (BitVec.ofNat 32 j) 2#32 = BitVec.ofNat 32 (j + 2) := by
    unfold IntOp.addi; rw [BitVec.ofNat_add]
  rw [this, ofBits_shl _ (by omega) (by omega)]
  congr 2; push_cast; ring

theorem powWord_ge (j : ℕ) (h : 251 ≤ j) (h' : j < 256) : Ideal.ofBits .f32 (powWord j) = ⊤ := by
  have hc : ¬ IntOp.cmpi .slt (BitVec.ofNat 32 j) 251#32 = 1 := by
    rw [slt_251 ⟨j, h'⟩, if_neg (by simp; omega)]; decide
  unfold powWord Scalar.select
  rw [if_neg hc, ofBits_inf]

/-! ## The count -/

/-- The count as a number. -/
theorem countWord_eq (v : EReal) :
    countWord v = BitVec.ofNat 32 (Finset.univ.filter fun j : Fin 256 => Ideal.ofBits .f32 (powWord j.val) ≤ v).card := by
  unfold countWord
  rw [Finset.card_filter]
  generalize (Finset.univ : Finset (Fin 256)) = S
  induction S using Finset.cons_induction with
  | empty => rfl
  | cons a S ha ih =>
    rw [Finset.fold_cons, Finset.sum_cons, ih, BitVec.ofNat_add]
    unfold IntOp.addi
    congr 1
    split <;> rfl

/-- The floor of the base-2 logarithm. -/
def flog (r : ℝ) : ℤ := ⌊Real.log r / Real.log 2⌋

/-- A power of two is at most `r` exactly when its exponent is at most the floor of `r`'s logarithm. -/
theorem zpow_le_iff (m : ℤ) (r : ℝ) (hr : 0 < r) : (2 : ℝ) ^ m ≤ r ↔ m ≤ flog r := by
  have h2 : 0 < Real.log 2 := Real.log_pos (by norm_num)
  rw [flog, Int.le_floor, le_div_iff₀ h2, ← Real.log_zpow, Real.log_le_log_iff (by positivity) hr]

/-- For a positive real `r` with `2^N ≤ r < 2^(N+1)` the count is `N + 126` clipped to [0, 251]. -/
theorem countWord_real (r : ℝ) (hr : 0 < r) :
    countWord (r : EReal) = BitVec.ofNat 32 (min 251 (flog r + 126).toNat) := by
  rw [countWord_eq]
  congr 1
  set k := min 251 (flog r + 126).toNat with hk
  have : (Finset.univ.filter fun j : Fin 256 => Ideal.ofBits .f32 (powWord j.val) ≤ (r : EReal))
      = Finset.univ.filter fun j : Fin 256 => j.val < k := by
    ext j
    simp only [Finset.mem_filter, Finset.mem_univ, true_and]
    by_cases hj : j.val < 251
    · rw [powWord_lt _ hj, EReal.coe_le_coe_iff]
      rw [zpow_le_iff _ r hr]; omega
    · rw [powWord_ge _ (by omega) j.isLt]
      constructor
      · intro h; exact absurd (top_le_iff.mp h) (EReal.coe_ne_top r)
      · intro h; omega
  rw [this]
  have hk' : k ≤ 256 := by omega
  rw [Fin.card_filter_val_lt]
  omega

/-! ## The two exponents -/

/-- The exponent of a positive real ratio, as an integer. -/
def iexpo (r : ℝ) : ℤ := min 126 (max (-125) (flog r + 1))

theorem expo_real (a : EReal) (r : ℝ) (ha : a ≠ 0) (hr : 0 < r) (h : ratio a = (r : EReal)) :
    expo a = (((iexpo r : ℤ) : ℝ) : EReal) := by
  unfold expo
  rw [if_neg (by rintro (h' | h'); exact ha h'; rw [h] at h'; exact EReal.coe_ne_top r h'), h]
  have hl : Ideal.log (r : EReal) = ((Real.log r : ℝ) : EReal) := if_neg (not_le.mpr hr)
  have h2 : (Real.log 2 : ℝ) ≠ 0 := (Real.log_pos (by norm_num)).ne'
  have hd : Ideal.div ((Real.log r : ℝ) : EReal) ((Real.log 2 : ℝ) : EReal) = ((Real.log r / Real.log 2 : ℝ) : EReal) := by
    unfold Ideal.div
    rw [if_neg (by exact_mod_cast h2), ← EReal.coe_inv, ← EReal.coe_mul, div_eq_mul_inv]
  rw [hl, hd]
  have hf : Ideal.liftRound Int.floor ((Real.log r / Real.log 2 : ℝ) : EReal) = ((flog r : ℝ) : EReal) := by
    rfl
  rw [hf]
  have mono : Monotone fun z : ℤ => (((z : ℝ)) : EReal) := fun a b h => by
    show ((a : ℝ) : EReal) ≤ ((b : ℝ) : EReal); exact_mod_cast h
  unfold iexpo
  rw [show (((min 126 (max (-125) (flog r + 1)) : ℤ) : ℝ) : EReal) = _ from mono.map_min,
    show (((max (-125) (flog r + 1) : ℤ) : ℝ) : EReal) = _ from mono.map_max]
  push_cast
  rfl

theorem kexpo_real (a : EReal) (r : ℝ) (ha : a ≠ 0) (hr : 0 < r) (h : ratio a = (r : EReal)) :
    kexpo a = BitVec.ofInt 32 (iexpo r) := by
  unfold kexpo
  rw [if_neg ha, h, ofBits_inf]
  have h1 : (0 : EReal) < r := by exact_mod_cast hr
  rw [decide_eq_true h1, decide_eq_true (EReal.coe_lt_top r)]
  unfold Scalar.select
  rw [if_pos (by decide), countWord_real r hr]
  unfold IntOp.subi iexpo
  rw [show (125#32 : BitVec 32) = BitVec.ofInt 32 125 from rfl, ← BitVec.ofInt_natCast, BitVec.sub_eq_add_neg,
    ← BitVec.ofInt_neg, ← BitVec.ofInt_add]
  congr 1; omega

theorem iexpo_bounds (r : ℝ) : -125 ≤ iexpo r ∧ iexpo r ≤ 126 := by unfold iexpo; omega

theorem powOf_int (e : ℤ) (h1 : -126 ≤ e) (h2 : e ≤ 126) : powOf (BitVec.ofInt 32 e) = (((2 : ℝ) ^ e : ℝ) : EReal) := by
  unfold powOf
  have : IntOp.addi (BitVec.ofInt 32 e) 127#32 = BitVec.ofNat 32 (e + 127).toNat := by
    unfold IntOp.addi
    have : (127#32 : BitVec 32) = BitVec.ofInt 32 127 := rfl
    rw [this, ← BitVec.ofInt_add, ← BitVec.ofInt_natCast]
    congr 1; omega
  rw [this, ofBits_shl _ (by omega) (by omega)]
  congr 2; omega

theorem exp2_int (e : ℤ) : Ideal.exp2 (((e : ℤ) : ℝ) : EReal) = (((2 : ℝ) ^ e : ℝ) : EReal) := by
  rw [Ideal.exp2_coe]
  congr 1
  exact Real.rpow_intCast 2 e

/-- The float nearest 1/448 is a positive real. -/
theorem inv448 : ∃ c : ℝ, 0 < c ∧ Ideal.ofBits .f32 0x3B124925#32 = (c : EReal) := by
  refine ⟨_, ?_, by simp [Ideal.ofBits, Ideal.ieee, -EReal.coe_mul]; rfl⟩
  norm_num

theorem ratio_pos_cases (a : EReal) (ha : 0 ≤ a) : a = 0 ∨ ratio a = ⊤ ∨ ∃ r : ℝ, 0 < r ∧ ratio a = (r : EReal) := by
  obtain ⟨c, hc, hw⟩ := inv448
  unfold ratio
  rw [hw]
  induction a with
  | bot => simp at ha
  | top => right; left; exact EReal.top_mul_coe_of_pos hc
  | coe x =>
    have hx : 0 ≤ x := by exact_mod_cast ha
    rcases hx.eq_or_lt with h | h
    · left; rw [← h]; rfl
    · right; right; exact ⟨x * c, mul_pos h hc, (EReal.coe_mul x c).symm⟩

/-- The kernel's and the reference's exponents are one integer. -/
theorem expo_cases (a : EReal) (ha : 0 ≤ a) :
    ∃ e : ℤ, -125 ≤ e ∧ e ≤ 126 ∧ expo a = ((e : ℝ) : EReal) ∧ kexpo a = BitVec.ofInt 32 e := by
  by_cases h0 : a = 0
  · refine ⟨0, by omega, by omega, ?_, ?_⟩
    · unfold expo; rw [if_pos (.inl h0)]; simp
    · unfold kexpo; rw [if_pos h0]; rfl
  rcases ratio_pos_cases a ha with h | h | ⟨r, hr, h⟩
  · exact absurd h h0
  · refine ⟨0, by omega, by omega, ?_, ?_⟩
    · unfold expo; rw [if_pos (.inr h)]; simp
    · unfold kexpo; rw [if_neg h0, h, ofBits_inf]; simp [Scalar.select, IntOp.andi]
  · exact ⟨iexpo r, (iexpo_bounds r).1, (iexpo_bounds r).2, expo_real a r h0 hr h, kexpo_real a r h0 hr h⟩

/-- The kernel's scale is the reference's. -/
theorem scale_eq (a : EReal) (ha : 0 ≤ a) : powOf (kexpo a) = scale a := by
  obtain ⟨e, h1, h2, h3, h4⟩ := expo_cases a ha
  unfold scale
  rw [h3, h4, exp2_int, powOf_int e (by omega) h2]

/-- And so is its inverse. -/
theorem inv_eq (a : EReal) (ha : 0 ≤ a) : powOf (IntOp.subi 0#32 (kexpo a)) = inv a := by
  obtain ⟨e, h1, h2, h3, h4⟩ := expo_cases a ha
  unfold inv
  have hk : IntOp.subi 0#32 (BitVec.ofInt 32 e) = BitVec.ofInt 32 (-e) := by
    unfold IntOp.subi; rw [BitVec.ofInt_neg]; simp
  have hn : (0 : EReal) - ((e : ℝ) : EReal) = (((-e : ℤ) : ℝ) : EReal) := by
    rw [zero_sub]; push_cast; rfl
  rw [h3, h4, hk, hn, exp2_int, powOf_int (-e) (by omega) (by omega)]

/-! ## The row maximum -/

theorem rowMax_nonneg {n : ℕ} (f : Fin n → EReal) (h : 0 < n) : 0 ≤ rowMax f := by
  unfold rowMax
  rw [Finset.le_fold_max]
  right
  refine ⟨⟨0, h⟩, Finset.mem_univ _, ?_⟩
  rcases le_total 0 (f ⟨0, h⟩) with h' | h'
  · exact le_max_of_le_left h'
  · exact le_max_of_le_right (by simpa using h')

/-- The row maximum is at most `c` exactly when every absolute value is. -/
theorem rowMax_le {n : ℕ} (f : Fin n → EReal) (c : EReal) : rowMax f ≤ c ↔ ∀ k, max (f k) (-f k) ≤ c := by
  unfold rowMax
  rw [Finset.fold_max_le, ofBits_ninf]
  simp

end Cert.Quant

end
-- ==== Proof.V.Rows.lean ====
module

public import proofs.«01_k».proof.Proof.V.Quant

@[expose] public section

/-! # Reductions along rows

A reduction of a matrix along its second axis, read at a row. -/

noncomputable section

namespace Cert.Rows

open Idealize.ShloMosaic

/-- The index that a reduction along the second axis reads. -/
theorem lift_eq {R C : ℕ} (h : Shape.Reduces ⟨2, ![R, C]⟩ [1] ⟨1, ![R]⟩) (r : Fin R) (k : Fin C) :
    h.lift (ix1 r) k = ix2 r k := by
  funext a
  fin_cases a
  · exact Fin.ext (h.lift_val (ix1 r) k _)
  · exact Fin.ext (h.lift_val (ix1 r) k _)

/-- A row's maximum. -/
theorem rowMax_plain {R C : ℕ} (X : FVec Ideal ⟨2, ![R, C]⟩ .f32) (h : Shape.Reduces ⟨2, ![R, C]⟩ [1] ⟨1, ![R]⟩)
    (hφ : FKind.Formats .f32) (hacc : 0xFF800000#32 = FKind.maximumf.neutral .f32 hφ) (r : Fin R) :
    multiReduction .maximumf [1] ⟨1, ![R]⟩ X 0xFF800000#32 h hφ hacc (ix1 r)
      = (Finset.univ : Finset (Fin C)).fold max (Ideal.ofBits .f32 0xFF800000#32) fun k => X (ix2 r k) := by
  rw [Ideal.multiReduction_maximumf_single]
  congr 1
  funext k
  exact congrArg X (lift_eq h r k)

/-- A row's largest absolute value. -/
theorem rowMax_abs {R C : ℕ} (X : FVec Ideal ⟨2, ![R, C]⟩ .f32) (h : Shape.Reduces ⟨2, ![R, C]⟩ [1] ⟨1, ![R]⟩)
    (hφ : FKind.Formats .f32) (hacc : 0xFF800000#32 = FKind.maximumf.neutral .f32 hφ) (r : Fin R) :
    multiReduction .maximumf [1] ⟨1, ![R]⟩ (absf X) 0xFF800000#32 h hφ hacc (ix1 r) = Quant.rowMax fun k => X (ix2 r k) := by
  rw [rowMax_plain]; rfl

/-- A column read as a one-column matrix. -/
theorem cast_col {α : Type} {R : ℕ} (v : Shape.Idx ⟨1, ![R]⟩ → α) (h : Shape.ShapeCasts ⟨1, ![R]⟩ ⟨2, ![R, 1]⟩) (r : Fin R) :
    shapeCast ⟨2, ![R, 1]⟩ v h (ix2 r 0) = v (ix1 r) :=
  congrArg v (Shape.reshapeEquiv_eq_of_rowMajor h (by
    rw [Shape.rowMajor_val_one, Shape.rowMajor_val_two]
    show r.val = r.val * 1 + 0
    omega))

/-- A vector read as a one-row matrix. -/
theorem cast_row {α : Type} {C : ℕ} (v : Shape.Idx ⟨1, ![C]⟩ → α) (h : Shape.ShapeCasts ⟨1, ![C]⟩ ⟨2, ![1, C]⟩) (n : Fin C) :
    shapeCast ⟨2, ![1, C]⟩ v h (ix2 0 n) = v (ix1 n) :=
  congrArg v (Shape.reshapeEquiv_eq_of_rowMajor h (by
    rw [Shape.rowMajor_val_one, Shape.rowMajor_val_two]
    show n.val = 0 * C + n.val
    omega))

/-- The leading two axes merged. -/
theorem cast_merge {α : Type} {A B C N : ℕ} (x : Shape.Idx ⟨3, ![A, B, C]⟩ → α) (h : Shape.ShapeCasts ⟨3, ![A, B, C]⟩ ⟨2, ![N, C]⟩)
    (a : Fin A) (b : Fin B) (k : Fin C) (r : Fin N) (hr : r.val = a.val * B + b.val) :
    shapeCast ⟨2, ![N, C]⟩ x h (ix2 r k) = x (ix3 a b k) :=
  congrArg x (Shape.reshapeEquiv_eq_of_rowMajor h (by
    rw [Shape.rowMajor_val_three, Shape.rowMajor_val_two]
    show (a.val * B + b.val) * C + k.val = r.val * C + k.val
    rw [hr]))

/-- The leading axis split. -/
theorem cast_split {α : Type} {A B C N : ℕ} (v : Shape.Idx ⟨2, ![N, C]⟩ → α) (h : Shape.ShapeCasts ⟨2, ![N, C]⟩ ⟨3, ![A, B, C]⟩)
    (a : Fin A) (b : Fin B) (k : Fin C) (r : Fin N) (hr : r.val = a.val * B + b.val) :
    shapeCast ⟨3, ![A, B, C]⟩ v h (ix3 a b k) = v (ix2 r k) :=
  congrArg v (Shape.reshapeEquiv_eq_of_rowMajor h (by
    rw [Shape.rowMajor_val_three, Shape.rowMajor_val_two]
    show r.val * C + k.val = (a.val * B + b.val) * C + k.val
    rw [hr]))

end Cert.Rows

end
-- ==== Proof.V.Spec.lean ====
module

public import proofs.«01_k».proof.Proof.V.Quant

@[expose] public section

/-! # The four results as functions of the arguments

Over the extended reals, from the activations `X` (4096 rows of 3584), the weights `W` and the column scales `S`: the codes
and scales of the rows of `X`, the scaled product of the codes with the weights, the hidden activations
`h = silu(gate) * up`, and the codes and scales of the rows of `h`. -/

noncomputable section

namespace Cert.Spec

open Idealize.ShloMosaic

variable (X : Fin 4096 → Fin 3584 → EReal) (W : Fin 3584 → Fin 7168 → EReal) (S : Fin 7168 → EReal)

/-- The scale of a row of `X`. -/
def xs (r : Fin 4096) : EReal := Quant.scale (Quant.rowMax (X r))

/-- The code of an entry of `X`. -/
def xc (r : Fin 4096) (k : Fin 3584) : EReal := Quant.code (X r k) (Quant.rowMax (X r))

/-- The dequantised product of the codes with the weights. -/
def lin (r : Fin 4096) (n : Fin 7168) : EReal := (∑ k, xc X r k * W k n) * xs X r * S n

/-- `silu(g) * u`. -/
def swiglu (g u : EReal) : EReal := g * Ideal.logistic g * u

/-- The hidden activations: columns `k` and `3584 + k` of the product through `swiglu`. -/
def hid (r : Fin 4096) (k : Fin 3584) : EReal :=
  swiglu (lin X W S r ⟨k.val, by omega⟩) (lin X W S r ⟨3584 + k.val, by omega⟩)

/-- The scale of a row of `h`. -/
def hs (r : Fin 4096) : EReal := Quant.scale (Quant.rowMax (hid X W S r))

/-- The code of an entry of `h`. -/
def hc (r : Fin 4096) (k : Fin 3584) : EReal := Quant.code (hid X W S r k) (Quant.rowMax (hid X W S r))

end Cert.Spec

end
-- ==== Proof.V.Kern.lean ====
module

public import proofs.«01_k».proof.Proof.PI.Body
public import proofs.«01_k».proof.Proof.V.Rows
public import proofs.«01_k».proof.Proof.V.Spec

@[expose] public section

/-! # The kernel body's values, entry by entry

Each value that the kernel computes for a block of 512 rows, read at an index over the extended reals: the codes and
scales of a row, one tile of `h`, and the running maximum. -/

noncomputable section

namespace Cert.KernelIdeal.Val

open Idealize.ShloMosaic Cert.KernelIdeal Cert.KernelIdeal.Gen Cert.KernelIdeal.Run

/-- The exponents of a column of largest absolute values, as the kernel computes them. -/
def kexpoVec (v50 : FVec Ideal S512x1 .f32) : IVec S512x1 32 :=
  have cst_22 : Ideal .f32 := Scalar.ofBits .f32 0x3B124925#32
  have v51 : FVec Ideal S512x1 .f32 := broadcast S512x1 cst_22
  have v52 : FVec Ideal S512x1 .f32 := mulf v50 v51
  have v53 : IVec S1x256 32 := iota .tc S1x256 32 [1] iota_S1x256_d1_w32
  have v54 : IVec S1x256 32 := broadcast S1x256 251#32
  have v55 : IVec S1x256 1 := cmpi .slt v53 v54
  have v56 : IVec S1x256 32 := broadcast S1x256 2#32
  have v57 : IVec S1x256 32 := addi v53 v56
  have v58 : IVec S1x256 32 := broadcast S1x256 23#32
  have v59 : IVec S1x256 32 := shli v57 v58
  have v60 : IVec S1x256 32 := broadcast S1x256 2139095040#32
  have v61 : IVec S1x256 32 := select v55 v59 v60
  have v62 : FVec Ideal S1x256 .f32 := bitcastToFloat .f32 v61
  have v63 : FVec Ideal S512x256 .f32 := broadcastTo S512x256 v52 broadcasts_S512x1_S512x256
  have v64 : FVec Ideal S512x256 .f32 := broadcastTo S512x256 v62 broadcasts_S1x256_S512x256
  have v65 : IVec S512x256 1 := cmpf .oge v63 v64
  have v66 : IVec S512x256 32 := broadcast S512x256 1#32
  have v67 : IVec S512x256 32 := broadcast S512x256 0#32
  have v68 : IVec S512x256 32 := select v65 v66 v67
  have v69 : IVec S512 32 := multiReductionI .add [1] S512 v68 0#32 reduces_S512x256_S512 rfl
  have v70 : IVec S512x1 32 := shapeCast S512x1 v69 shapeCasts_S512_S512x1
  have cst_25 : Ideal .f32 := Scalar.ofBits .f32 0x00000000#32
  have v71 : FVec Ideal S512x1 .f32 := broadcast S512x1 cst_25
  have v72 : IVec S512x1 1 := cmpf .ogt v52 v71
  have cst_26 : Ideal .f32 := Scalar.ofBits .f32 0x7F800000#32
  have v73 : FVec Ideal S512x1 .f32 := broadcast S512x1 cst_26
  have v74 : IVec S512x1 1 := cmpf .olt v52 v73
  have v75 : IVec S512x1 1 := andi v72 v74
  have v76 : IVec S512x1 32 := broadcast S512x1 125#32
  have v77 : IVec S512x1 32 := subi v70 v76
  have v78 : IVec S512x1 32 := broadcast S512x1 0#32
  have v79 : IVec S512x1 32 := select v75 v77 v78
  have cst_28 : Ideal .f32 := Scalar.ofBits .f32 0x00000000#32
  have v80 : FVec Ideal S512x1 .f32 := broadcast S512x1 cst_28
  have v81 : IVec S512x1 1 := cmpf .oeq v50 v80
  have v82 : IVec S512x1 32 := broadcast S512x1 0#32
  have v83 : IVec S512x1 32 := select v81 v82 v79
  v83

theorem pay4_eq (x : Vec Ideal S512x3584 .bf16) :
    k0_pay4 (F := Ideal) x = kexpoVec (shapeCast S512x1
      (multiReduction .maximumf [1] S512 (absf (k0_pay3 (F := Ideal) x)) 0xFF800000#32 reduces_S512x3584_S512 (.inl rfl) rfl)
      shapeCasts_S512_S512x1) := by
  unfold k0_pay4 kexpoVec
  rfl

theorem pay6_eq (M : Vec Ideal S512x128 .f32) :
    k0_pay6 (F := Ideal) M = kexpoVec (shapeCast S512x1
      (multiReduction .maximumf [1] S512 M 0xFF800000#32 reduces_S512x128_S512 (.inl rfl) rfl)
      shapeCasts_S512_S512x1) := by
  unfold k0_pay6 kexpoVec
  rfl

/-- The exponent that the kernel takes of a row. -/
theorem kexpoVec_apply (v : FVec Ideal S512x1 .f32) (r : Fin 512) : kexpoVec v (ix2 r 0) = Quant.kexpo (v (ix2 r 0)) := by
  unfold kexpoVec
  pointwise
  rfl

theorem pay3_apply (x : Vec Ideal S512x3584 .bf16) (r : Fin 512) (k : Fin 3584) :
    k0_pay3 (F := Ideal) x (ix2 r k) = x (ix2 r k) := by
  unfold k0_pay3
  pointwise

/-- The exponent of a row of a block of `x`. -/
theorem pay4_apply (x : Vec Ideal S512x3584 .bf16) (r : Fin 512) :
    k0_pay4 (F := Ideal) x (ix2 r 0) = Quant.kexpo (Quant.rowMax fun k => x (ix2 r k)) := by
  rw [pay4_eq, kexpoVec_apply]
  simp only [← pay3_apply x]
  exact congrArg Quant.kexpo ((Rows.cast_col _ _ r).trans (Rows.rowMax_abs (k0_pay3 (F := Ideal) x) _ _ _ r))

/-- The scale of a row of a block of `x`. -/
theorem scalesOf_apply (x : Vec Ideal S512x3584 .bf16) (r : Fin 512) :
    scalesOf (F := Ideal) x (ix2 r 0) = Quant.scale (Quant.rowMax fun k => x (ix2 r k)) := by
  have h : scalesOf (F := Ideal) x (ix2 r 0) = Quant.powOf (k0_pay4 (F := Ideal) x (ix2 r 0)) := by
    unfold scalesOf k0_pay8 k0_pay5
    rfl
  rw [h, pay4_apply, Quant.scale_eq _ (Quant.rowMax_nonneg _ (by decide))]

/-- A block's codes from its entries and its rows' exponents. -/
theorem pay2_apply (v : Vec Ideal S512x3584 .f32) (e : IVec S512x1 32) (r : Fin 512) (k : Fin 3584) (a : EReal) (ha : 0 ≤ a)
    (he : e (ix2 r 0) = Quant.kexpo a) : k0_pay2 (F := Ideal) e v (ix2 r k) = Quant.code (v (ix2 r k)) a := by
  have h : k0_pay2 (F := Ideal) e v (ix2 r k)
      = min (Ideal.ofBits .f32 0x43E00000#32) (max (Ideal.ofBits .f32 0xC3E00000#32)
        (v (ix2 r k) * Quant.powOf (IntOp.subi 0#32 (e (ix2 r 0))))) := by
    unfold k0_pay2 Quant.powOf
    pointwise
  rw [h, he, Quant.inv_eq _ ha]
  rfl

/-- The code of an entry of a block of `x`. -/
theorem codesOf_apply (x : Vec Ideal S512x3584 .bf16) (r : Fin 512) (k : Fin 3584) :
    codesOf (F := Ideal) x (ix2 r k) = Quant.code (x (ix2 r k)) (Quant.rowMax fun k => x (ix2 r k)) := by
  have h : codesOf (F := Ideal) x = k0_pay2 (F := Ideal) (k0_pay4 (F := Ideal) x) (k0_pay3 (F := Ideal) x) := by
    unfold codesOf k0_pay9 k0_pay2
    rfl
  rw [h, pay2_apply _ _ r k _ (Quant.rowMax_nonneg _ (by decide)) (pay4_apply x r), pay3_apply]

section

variable (xc : Vec Ideal S512x3584 .fp8e4m3) (xs : Vec Ideal S512x1 .f32) (wg wu : Vec Ideal S3584x512 .fp8e4m3)
variable (sg su : Vec Ideal S1x512 .f32)

/-- An entry of a tile of `h`. -/
theorem pay11_apply (r n : Fin 512) :
    k0_pay11 (F := Ideal) xc xs wg wu sg su (ix2 r n)
      = Spec.swiglu ((∑ k : Fin 3584, xc (ix2 r k) * wg (ix2 k n)) * xs (ix2 r 0) * sg (ix2 0 n))
        ((∑ k : Fin 3584, xc (ix2 r k) * wu (ix2 k n)) * xs (ix2 r 0) * su (ix2 0 n)) := by
  unfold k0_pay11 Spec.swiglu
  pointwise

theorem tileOf_apply (r n : Fin 512) :
    tileOf (F := Ideal) xc xs wg wu sg su (ix2 r n)
      = Spec.swiglu ((∑ k : Fin 3584, xc (ix2 r k) * wg (ix2 k n)) * xs (ix2 r 0) * sg (ix2 0 n))
        ((∑ k : Fin 3584, xc (ix2 r k) * wu (ix2 k n)) * xs (ix2 r 0) * su (ix2 0 n)) := by
  rw [← pay11_apply]
  unfold tileOf k0_pay12
  pointwise

/-- An entry's absolute value. -/
def mag (a : EReal) : EReal := max a (-a)

/-- The running maximum at a lane: the one before and the tile's four entries of that lane. -/
theorem maxOf_apply (M : Vec Ideal S512x128 .f32) (r : Fin 512) (l : Fin 128) :
    maxOf (F := Ideal) xc xs wg wu sg su M (ix2 r l)
      = max (max (max (max (M (ix2 r l)) (mag (tileOf (F := Ideal) xc xs wg wu sg su (ix2 r ⟨l.val, by omega⟩))))
        (mag (tileOf (F := Ideal) xc xs wg wu sg su (ix2 r ⟨128 + l.val, by omega⟩))))
        (mag (tileOf (F := Ideal) xc xs wg wu sg su (ix2 r ⟨256 + l.val, by omega⟩))))
        (mag (tileOf (F := Ideal) xc xs wg wu sg su (ix2 r ⟨384 + l.val, by omega⟩))) := by
  have ht : ∀ n : Fin 512, tileOf (F := Ideal) xc xs wg wu sg su (ix2 r n) = k0_pay11 (F := Ideal) xc xs wg wu sg su (ix2 r n) :=
    fun n => (tileOf_apply xc xs wg wu sg su r n).trans (pay11_apply xc xs wg wu sg su r n).symm
  simp only [ht]
  unfold maxOf k0_pay1 k0_pay14 k0_pay13 mag
  generalize k0_pay11 (F := Ideal) xc xs wg wu sg su = T
  pointwise
  rfl

end

theorem maxZero_apply (r : Fin 512) (l : Fin 128) : maxZero (F := Ideal) (ix2 r l) = 0 := by
  unfold maxZero k0_pay10
  pointwise

end Cert.KernelIdeal.Val

end
-- ==== Proof.V.Block.lean ====
module

public import proofs.«01_k».proof.Proof.PI.Run
public import proofs.«01_k».proof.Proof.V.Kern

@[expose] public section

/-! # A row block of the kernel

The blocks the kernel's windows read, as entries of the arguments, and from them the codes, scales, hidden activations and
row maxima of a block of 512 rows. -/

noncomputable section

namespace Cert.KernelIdeal.Val

open Idealize.ShloMosaic Idealize.ShloMosaic.TcCoe Cert.KernelIdeal Cert.KernelIdeal.Gen Cert.KernelIdeal.Run

variable (m : (ℓ : Loc nD τ sig) → Buf (Elt Ideal) ℓ) (c : Dev nD)

/-- The activations as a matrix. -/
def X (r : Fin 4096) (k : Fin 3584) : EReal :=
  (m ((c : Thread nD τ).loc main_arg0) : Vec Ideal S4x1024x3584 .bf16) (ix3 ⟨r.val / 1024, by omega⟩ ⟨r.val % 1024, by omega⟩ k)

/-- The weights. -/
def W (k : Fin 3584) (n : Fin 7168) : EReal := (m ((c : Thread nD τ).loc main_arg1) : Vec Ideal S3584x7168 .fp8e4m3) (ix2 k n)

/-- The column scales. -/
def S (n : Fin 7168) : EReal := (m ((c : Thread nD τ).loc main_arg2) : Vec Ideal S7168 .f32) (ix1 n)

/-! ## The arrays as the region finds them -/

theorem V_v0 (r : Fin 4096) (k : Fin 3584) : (V m c main_v0 : Vec Ideal S4096x3584 .bf16) (ix2 r k) = X m c r k := by
  have h : V m c main_v0 = shapeCast S4096x3584 (m ((c : Thread nD τ).loc main_arg0) : Vec Ideal S4x1024x3584 .bf16)
      shapeCasts_S4x1024x3584_S4096x3584 := by
    entry_read
    rfl
  rw [h]
  exact Rows.cast_merge _ _ _ _ k r (by show r.val = r.val / 1024 * 1024 + r.val % 1024; omega)

theorem V_v1 (n : Fin 7168) : (V m c main_v1 : Vec Ideal S1x7168 .f32) (ix2 0 n) = S m c n := by
  have h : V m c main_v1 = shapeCast S1x7168 (m ((c : Thread nD τ).loc main_arg2) : Vec Ideal S7168 .f32)
      shapeCasts_S7168_S1x7168 := by
    entry_read
    rfl
  rw [h]
  exact Rows.cast_row _ _ n

theorem V_w (k : Fin 3584) (n : Fin 7168) : (V m c main_arg1 : Vec Ideal S3584x7168 .fp8e4m3) (ix2 k n) = W m c k n := by
  rw [V_main_arg1]; rfl

/-! ## The windows' index maps -/

theorem idx0 : ∀ t : Fin cfg0.N, win0_0.index t (0 : Fin 2) = t.val / 7 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 7 :=
  (by decide +kernel : ∀ t : Fin grid0.N, _)
theorem idx2 : ∀ t : Fin cfg0.N, win0_2.index t (0 : Fin 2) = 0 ∧ win0_2.index t (1 : Fin 2) = t.val % 7 + 7 :=
  (by decide +kernel : ∀ t : Fin grid0.N, _)
theorem idx3 : ∀ t : Fin cfg0.N, win0_3.index t (0 : Fin 2) = 0 ∧ win0_3.index t (1 : Fin 2) = t.val % 7 :=
  (by decide +kernel : ∀ t : Fin grid0.N, _)
theorem idx4 : ∀ t : Fin cfg0.N, win0_4.index t (0 : Fin 2) = 0 ∧ win0_4.index t (1 : Fin 2) = t.val % 7 + 7 :=
  (by decide +kernel : ∀ t : Fin grid0.N, _)

variable (b j : ℕ)

/-- Row `r` of row block `b`. -/
def row (hb : b < 8) (r : Fin 512) : Fin 4096 := ⟨512 * b + r.val, by omega⟩

theorem pt_val (hb : b < 8) (hj : j < 7) : (pt b j).val = b * 7 + j := by
  show (b * 7 + j) % 56 = b * 7 + j
  omega

theorem iblk0 (hb : b < 8) (hj : j < 7) (r : Fin 512) (k : Fin 3584) : iblk m c 0 (pt b j) (ix2 r k) = X m c (row b hb r) k := by
  rw [← V_v0]
  obtain ⟨e0, e1⟩ := idx0 (pt b j)
  have hp := pt_val b j hb hj
  refine congrArg (V m c main_v0) (funext fun a => Fin.ext ?_)
  match a with
  | ⟨0, _⟩ => show win0_0.index (pt b j) (0 : Fin 2) * 512 + 1 * r.val = 512 * b + r.val; omega
  | ⟨1, _⟩ => show win0_0.index (pt b j) (1 : Fin 2) * 3584 + 1 * k.val = k.val; omega

theorem iblk1 (hb : b < 8) (hj : j < 7) (k : Fin 3584) (n : Fin 512) : iblk m c 1 (pt b j) (ix2 k n) = W m c k ⟨512 * j + n.val, by omega⟩ := by
  rw [← V_w]
  obtain ⟨e0, e1⟩ := idx1 (pt b j)
  have hp := pt_val b j hb hj
  refine congrArg (V m c main_arg1) (funext fun a => Fin.ext ?_)
  match a with
  | ⟨0, _⟩ => show win0_1.index (pt b j) (0 : Fin 2) * 3584 + 1 * k.val = k.val; omega
  | ⟨1, _⟩ => show win0_1.index (pt b j) (1 : Fin 2) * 512 + 1 * n.val = 512 * j + n.val; omega

theorem iblk2 (hb : b < 8) (hj : j < 7) (k : Fin 3584) (n : Fin 512) : iblk m c 2 (pt b j) (ix2 k n) = W m c k ⟨3584 + (512 * j + n.val), by omega⟩ := by
  rw [← V_w]
  obtain ⟨e0, e1⟩ := idx2 (pt b j)
  have hp := pt_val b j hb hj
  refine congrArg (V m c main_arg1) (funext fun a => Fin.ext ?_)
  match a with
  | ⟨0, _⟩ => show win0_2.index (pt b j) (0 : Fin 2) * 3584 + 1 * k.val = k.val; omega
  | ⟨1, _⟩ => show win0_2.index (pt b j) (1 : Fin 2) * 512 + 1 * n.val = 3584 + (512 * j + n.val); omega

theorem iblk3 (hb : b < 8) (hj : j < 7) (n : Fin 512) : iblk m c 3 (pt b j) (ix2 0 n) = S m c ⟨512 * j + n.val, by omega⟩ := by
  rw [← V_v1]
  obtain ⟨e0, e1⟩ := idx3 (pt b j)
  have hp := pt_val b j hb hj
  refine congrArg (V m c main_v1) (funext fun a => Fin.ext ?_)
  match a with
  | ⟨0, _⟩ => show win0_3.index (pt b j) (0 : Fin 2) * 1 + 1 * 0 = 0; omega
  | ⟨1, _⟩ => show win0_3.index (pt b j) (1 : Fin 2) * 512 + 1 * n.val = 512 * j + n.val; omega

theorem iblk4 (hb : b < 8) (hj : j < 7) (n : Fin 512) : iblk m c 4 (pt b j) (ix2 0 n) = S m c ⟨3584 + (512 * j + n.val), by omega⟩ := by
  rw [← V_v1]
  obtain ⟨e0, e1⟩ := idx4 (pt b j)
  have hp := pt_val b j hb hj
  refine congrArg (V m c main_v1) (funext fun a => Fin.ext ?_)
  match a with
  | ⟨0, _⟩ => show win0_4.index (pt b j) (0 : Fin 2) * 1 + 1 * 0 = 0; omega
  | ⟨1, _⟩ => show win0_4.index (pt b j) (1 : Fin 2) * 512 + 1 * n.val = 3584 + (512 * j + n.val); omega

/-! ## The block's values -/

/-- The block's codes. -/
theorem xcB_apply (hb : b < 8) (r : Fin 512) (k : Fin 3584) : xcB m c b (ix2 r k) = Spec.xc (X m c) (row b hb r) k := by
  unfold xcB Spec.xc
  rw [codesOf_apply]
  simp only [iblk0 m c b 0 hb (by decide)]

/-- The block's scales. -/
theorem xsB_apply (hb : b < 8) (r : Fin 512) : xsB m c b (ix2 r 0) = Spec.xs (X m c) (row b hb r) := by
  unfold xsB Spec.xs
  rw [scalesOf_apply]
  simp only [iblk0 m c b 0 hb (by decide)]

/-- A tile of the block's hidden activations. -/
theorem tileB_apply (hb : b < 8) (hj : j < 7) (r n : Fin 512) :
    tileB m c b j (ix2 r n) = Spec.hid (X m c) (W m c) (S m c) (row b hb r) ⟨512 * j + n.val, by omega⟩ := by
  unfold tileB
  rw [tileOf_apply]
  simp only [xcB_apply m c b hb, xsB_apply m c b hb, iblk1 m c b j hb hj, iblk2 m c b j hb hj, iblk3 m c b j hb hj,
    iblk4 m c b j hb hj]
  rfl

/-- The block's hidden activations. -/
theorem hidB_apply (hb : b < 8) (r : Fin 512) (k : Fin 3584) :
    hidB m c b (ix2 r k) = Spec.hid (X m c) (W m c) (S m c) (row b hb r) k := by
  have hk : k.val / 512 < 7 := by omega
  have h : hidB m c b (ix2 r k) = tileB m c b (k.val / 512) (ix2 r ⟨k.val % 512, by omega⟩) := by
    unfold hidB
    refine congrArg (tileB m c b (k.val / 512)) (funext fun a => ?_)
    fin_cases a <;> rfl
  rw [h, tileB_apply m c b _ hb hk]
  congr 1
  exact Fin.ext (by show 512 * (k.val / 512) + k.val % 512 = k.val; omega)

theorem lane0 (l : Fin 128) (h : 128 * ((0 : Fin 4) : ℕ) + l.val < 512) :
    (⟨128 * ((0 : Fin 4) : ℕ) + l.val, h⟩ : Fin 512) = ⟨l.val, by omega⟩ :=
  Fin.ext (by show 128 * 0 + l.val = l.val; omega)

/-- The running maximum at a lane is at most `u` exactly when the entries of that lane so far are. -/
theorem maxB_le (n : ℕ) (r : Fin 512) (l : Fin 128) (u : EReal) :
    maxB m c b n (ix2 r l) ≤ u
      ↔ 0 ≤ u ∧ ∀ j, j < n → ∀ q : Fin 4, mag (tileB m c b j (ix2 r ⟨128 * q.val + l.val, by omega⟩)) ≤ u := by
  induction n with
  | zero =>
    have h : maxB m c b 0 (ix2 r l) = 0 := maxZero_apply r l
    rw [h]
    exact ⟨fun h => ⟨h, fun j hj => absurd hj (Nat.not_lt_zero j)⟩, fun h => h.1⟩
  | succ n ih =>
    have h : maxB m c b (n + 1) (ix2 r l) = _ := maxOf_apply _ _ _ _ _ _ (maxB m c b n) r l
    rw [h]
    simp only [max_le_iff]
    rw [ih]
    constructor
    · rintro ⟨⟨⟨⟨⟨h0, hn⟩, a0⟩, a1⟩, a2⟩, a3⟩
      refine ⟨h0, fun j hj q => ?_⟩
      rcases Nat.lt_succ_iff_lt_or_eq.mp hj with hj | rfl
      · exact hn j hj q
      · fin_cases q
        · exact (congrArg (fun n => mag (tileB m c b j (ix2 r n))) (lane0 l _)).trans_le a0
        · exact a1
        · exact a2
        · exact a3
    · rintro ⟨h0, hn⟩
      refine ⟨⟨⟨⟨⟨h0, fun j hj q => hn j (by omega) q⟩, ?_⟩, hn n (by omega) 1⟩, hn n (by omega) 2⟩, hn n (by omega) 3⟩
      have := hn n (by omega) 0
      rw [lane0] at this
      exact this

/-- The lanes' maximum after the last tile is the row's largest absolute value. -/
theorem maxB_row (hb : b < 8) (r : Fin 512) :
    ((Finset.univ : Finset (Fin 128)).fold max (Ideal.ofBits .f32 0xFF800000#32) fun l => maxB m c b 7 (ix2 r l))
      = Quant.rowMax (Spec.hid (X m c) (W m c) (S m c) (row b hb r)) := by
  refine eq_of_forall_ge_iff fun u => ?_
  rw [Quant.rowMax_le, Finset.fold_max_le, Quant.ofBits_ninf]
  constructor
  · rintro ⟨-, h⟩ k
    have := ((maxB_le m c b 7 r ⟨k.val % 128, by omega⟩ u).mp (h _ (Finset.mem_univ _))).2 (k.val / 512) (by omega)
      ⟨k.val % 512 / 128, by omega⟩
    rw [tileB_apply m c b _ hb (by omega)] at this
    have e : (⟨512 * (k.val / 512) + (128 * (k.val % 512 / 128) + k.val % 128), by omega⟩ : Fin 3584) = k :=
      Fin.ext (by show 512 * (k.val / 512) + (128 * (k.val % 512 / 128) + k.val % 128) = k.val; omega)
    rw [e] at this
    exact this
  · intro h
    have h0 : 0 ≤ u := (Quant.rowMax_nonneg _ (by decide)).trans ((Quant.rowMax_le _ u).mpr h)
    refine ⟨bot_le, fun l _ => (maxB_le m c b 7 r l u).mpr ⟨h0, fun j hj q => ?_⟩⟩
    rw [tileB_apply m c b _ hb hj]
    exact h _

/-- The exponent of a row of the block of `h`. -/
theorem pay6_apply (hb : b < 8) (r : Fin 512) :
    k0_pay6 (F := Ideal) (maxB m c b 7) (ix2 r 0)
      = Quant.kexpo (Quant.rowMax (Spec.hid (X m c) (W m c) (S m c) (row b hb r))) := by
  rw [pay6_eq, kexpoVec_apply, ← maxB_row m c b hb]
  exact congrArg Quant.kexpo ((Rows.cast_col _ _ r).trans (Rows.rowMax_plain (maxB m c b 7) _ _ _ r))

/-- The block's scales of `h`. -/
theorem hsB_apply (hb : b < 8) (r : Fin 512) : hsB m c b (ix2 r 0) = Spec.hs (X m c) (W m c) (S m c) (row b hb r) := by
  have h : hsB m c b (ix2 r 0) = Quant.powOf (k0_pay6 (F := Ideal) (maxB m c b 7) (ix2 r 0)) := by
    unfold hsB k0_pay7
    rfl
  rw [h, pay6_apply m c b hb, Quant.scale_eq _ (Quant.rowMax_nonneg _ (by decide))]
  rfl

/-- The block's codes of `h`. -/
theorem hcB_apply (hb : b < 8) (r : Fin 512) (k : Fin 3584) :
    hcB m c b (ix2 r k) = Spec.hc (X m c) (W m c) (S m c) (row b hb r) k := by
  unfold hcB
  rw [pay2_apply _ _ r k _ (Quant.rowMax_nonneg _ (by decide)) (pay6_apply m c b hb r), hidB_apply m c b hb]
  rfl

end Cert.KernelIdeal.Val

end
-- ==== Proof.V.KernRun.lean ====
module

public import proofs.«01_k».proof.Proof.V.Block
public import Idealize.ShloMosaic.Lib.Pipeline.Value
public import Idealize.ShloMosaic.Lib.Claim

@[expose] public section

/-! # The kernel's run, its results read

Each result array ends holding the specification's values, because the blocks written at the row blocks' last tiles cover
it; the host's reshapes then split its rows. -/

noncomputable section

namespace Cert.KernelIdeal.Val

open Idealize.ShloMosaic Idealize.ShloMosaic.TcCoe Idealize.SL.Sem Cert.KernelIdeal Cert.KernelIdeal.Gen Cert.KernelIdeal.Run
open Idealize.ShloMosaic.Pipeline (Dat)

variable (m : (ℓ : Loc nD τ sig) → Buf (Elt Ideal) ℓ) (ρ : Dev nD → PrngReg) (c : Dev nD)

/-! ## The four result arrays -/

/-- The scales of `h`, one column. -/
def G5 : Vec Ideal S4096x1 .f32 := fun i => Spec.hs (X m c) (W m c) (S m c) (i 0)
/-- The codes of `h`. -/
def G6 : Vec Ideal S4096x3584 .fp8e4m3 := fun i => Spec.hc (X m c) (W m c) (S m c) (i 0) (i 1)
/-- The codes of `x`. -/
def G7 : Vec Ideal S4096x3584 .fp8e4m3 := fun i => Spec.xc (X m c) (i 0) (i 1)
/-- The scales of `x`, one column. -/
def G8 : Vec Ideal S4096x1 .f32 := fun i => Spec.xs (X m c) (i 0)

theorem block_lt (t : Fin cfg0.N) : t.val / 7 < 8 := by
  have h : t.val < 56 := t.isLt.trans_eq N_0
  omega

/-- The last tile of the row block of row `r`. -/
theorem last_mod (r : ℕ) (hr : r < 4096) : (pt (r / 512) 6).val = r / 512 * 7 + 6 := pt_val _ 6 (by omega) (by omega)

/-! ### Window 5 -/

theorem idx5 : ∀ t : Fin cfg0.N, win0_5.index t (0 : Fin 2) = t.val / 7 ∧ win0_5.index t (1 : Fin 2) = 0 :=
  (by decide +kernel : ∀ t : Fin grid0.N, _)

/-- The array index of an index of the point's block. -/
theorem emb5 (t : Fin cfg0.N) (r : Fin 512) (k : Fin 1) :
    ((cfg0.win 5).blk t).view.emb (ix2 r k) = ix2 (row (t.val / 7) (block_lt t) r) k := by
  obtain ⟨e0, e1⟩ := idx5 t
  funext a; apply Fin.ext
  match a with
  | ⟨0, _⟩ => show win0_5.index t (0 : Fin 2) * 512 + 1 * r.val = 512 * (t.val / 7) + r.val; omega
  | ⟨1, _⟩ => show win0_5.index t (1 : Fin 2) * 1 + 1 * k.val = k.val; omega

/-- What a point writes back is its block of the specification's array. -/
theorem flushed5 (t : Fin cfg0.N) :
    (dats m 0 c).flushed 5 t = ((cfg0.win 5).blk t).view.read (Elt Ideal) (G5 m c) := by
  show (cfg0.win 5).cut (grid0.coords t) ((dats m 0 c).after 5 t) = _
  rw [after5]
  funext j
  show hsB m c (t.val / 7) j = G5 m c (((cfg0.win 5).blk t).view.emb j)
  obtain ⟨r, k, rfl⟩ : ∃ (r : Fin 512) (k : Fin 1), j = ix2 r k := ⟨j 0, j 1, eq_ix2 j⟩
  rw [emb5]
  obtain rfl : k = 0 := Subsingleton.elim _ _
  exact hsB_apply m c _ (block_lt t) r

/-- The blocks cover the array. -/
theorem covered5 (i : S4096x1.Idx) : ∃ t : Fin cfg0.N, (cfg0.win 5).flush t = true ∧ i ∈ ((cfg0.win 5).blk t).view.set := by
  obtain ⟨r, k, rfl⟩ : ∃ (r : Fin 4096) (k : Fin 1), i = ix2 r k := ⟨i 0, i 1, eq_ix2 i⟩
  have hl := last_mod r.val r.isLt
  refine ⟨pt (r.val / 512) 6, by rw [flush5, decide_eq_true_iff]; omega, ?_⟩
  have h := ((cfg0.win 5).blk (pt (r.val / 512) 6)).view.emb_mem_set (ix2 (⟨r.val % 512, by omega⟩ : Fin 512) k)
  rw [emb5] at h
  have e : row ((pt (r.val / 512) 6).val / 7) (block_lt _) ⟨r.val % 512, by omega⟩ = r :=
    Fin.ext (by show 512 * ((pt (r.val / 512) 6).val / 7) + r.val % 512 = r.val; omega)
  rwa [e] at h

theorem final5 : (dats m 0 c).arrAt 5 cfg0.N = G5 m c :=
  (dats m 0 c).arrAt_eq_of_cover 5 (G5 m c) (fun t _ => flushed5 m c t) covered5

/-! ### Window 6 -/

theorem idx6 : ∀ t : Fin cfg0.N, win0_6.index t (0 : Fin 2) = t.val / 7 ∧ win0_6.index t (1 : Fin 2) = 0 :=
  (by decide +kernel : ∀ t : Fin grid0.N, _)

/-- The array index of an index of the point's block. -/
theorem emb6 (t : Fin cfg0.N) (r : Fin 512) (k : Fin 3584) :
    ((cfg0.win 6).blk t).view.emb (ix2 r k) = ix2 (row (t.val / 7) (block_lt t) r) k := by
  obtain ⟨e0, e1⟩ := idx6 t
  funext a; apply Fin.ext
  match a with
  | ⟨0, _⟩ => show win0_6.index t (0 : Fin 2) * 512 + 1 * r.val = 512 * (t.val / 7) + r.val; omega
  | ⟨1, _⟩ => show win0_6.index t (1 : Fin 2) * 3584 + 1 * k.val = k.val; omega

/-- What a point writes back is its block of the specification's array. -/
theorem flushed6 (t : Fin cfg0.N) :
    (dats m 0 c).flushed 6 t = ((cfg0.win 6).blk t).view.read (Elt Ideal) (G6 m c) := by
  show (cfg0.win 6).cut (grid0.coords t) ((dats m 0 c).after 6 t) = _
  rw [after6]
  funext j
  show hcB m c (t.val / 7) j = G6 m c (((cfg0.win 6).blk t).view.emb j)
  obtain ⟨r, k, rfl⟩ : ∃ (r : Fin 512) (k : Fin 3584), j = ix2 r k := ⟨j 0, j 1, eq_ix2 j⟩
  rw [emb6]
  exact hcB_apply m c _ (block_lt t) r k

/-- The blocks cover the array. -/
theorem covered6 (i : S4096x3584.Idx) : ∃ t : Fin cfg0.N, (cfg0.win 6).flush t = true ∧ i ∈ ((cfg0.win 6).blk t).view.set := by
  obtain ⟨r, k, rfl⟩ : ∃ (r : Fin 4096) (k : Fin 3584), i = ix2 r k := ⟨i 0, i 1, eq_ix2 i⟩
  have hl := last_mod r.val r.isLt
  refine ⟨pt (r.val / 512) 6, by rw [flush6, decide_eq_true_iff]; omega, ?_⟩
  have h := ((cfg0.win 6).blk (pt (r.val / 512) 6)).view.emb_mem_set (ix2 (⟨r.val % 512, by omega⟩ : Fin 512) k)
  rw [emb6] at h
  have e : row ((pt (r.val / 512) 6).val / 7) (block_lt _) ⟨r.val % 512, by omega⟩ = r :=
    Fin.ext (by show 512 * ((pt (r.val / 512) 6).val / 7) + r.val % 512 = r.val; omega)
  rwa [e] at h

theorem final6 : (dats m 0 c).arrAt 6 cfg0.N = G6 m c :=
  (dats m 0 c).arrAt_eq_of_cover 6 (G6 m c) (fun t _ => flushed6 m c t) covered6

/-! ### Window 7 -/

theorem idx7 : ∀ t : Fin cfg0.N, win0_7.index t (0 : Fin 2) = t.val / 7 ∧ win0_7.index t (1 : Fin 2) = 0 :=
  (by decide +kernel : ∀ t : Fin grid0.N, _)

/-- The array index of an index of the point's block. -/
theorem emb7 (t : Fin cfg0.N) (r : Fin 512) (k : Fin 3584) :
    ((cfg0.win 7).blk t).view.emb (ix2 r k) = ix2 (row (t.val / 7) (block_lt t) r) k := by
  obtain ⟨e0, e1⟩ := idx7 t
  funext a; apply Fin.ext
  match a with
  | ⟨0, _⟩ => show win0_7.index t (0 : Fin 2) * 512 + 1 * r.val = 512 * (t.val / 7) + r.val; omega
  | ⟨1, _⟩ => show win0_7.index t (1 : Fin 2) * 3584 + 1 * k.val = k.val; omega

/-- What a point writes back is its block of the specification's array. -/
theorem flushed7 (t : Fin cfg0.N) :
    (dats m 0 c).flushed 7 t = ((cfg0.win 7).blk t).view.read (Elt Ideal) (G7 m c) := by
  show (cfg0.win 7).cut (grid0.coords t) ((dats m 0 c).after 7 t) = _
  rw [after7]
  funext j
  show xcB m c (t.val / 7) j = G7 m c (((cfg0.win 7).blk t).view.emb j)
  obtain ⟨r, k, rfl⟩ : ∃ (r : Fin 512) (k : Fin 3584), j = ix2 r k := ⟨j 0, j 1, eq_ix2 j⟩
  rw [emb7]
  exact xcB_apply m c _ (block_lt t) r k

/-- The blocks cover the array. -/
theorem covered7 (i : S4096x3584.Idx) : ∃ t : Fin cfg0.N, (cfg0.win 7).flush t = true ∧ i ∈ ((cfg0.win 7).blk t).view.set := by
  obtain ⟨r, k, rfl⟩ : ∃ (r : Fin 4096) (k : Fin 3584), i = ix2 r k := ⟨i 0, i 1, eq_ix2 i⟩
  have hl := last_mod r.val r.isLt
  refine ⟨pt (r.val / 512) 6, by rw [flush7, decide_eq_true_iff]; omega, ?_⟩
  have h := ((cfg0.win 7).blk (pt (r.val / 512) 6)).view.emb_mem_set (ix2 (⟨r.val % 512, by omega⟩ : Fin 512) k)
  rw [emb7] at h
  have e : row ((pt (r.val / 512) 6).val / 7) (block_lt _) ⟨r.val % 512, by omega⟩ = r :=
    Fin.ext (by show 512 * ((pt (r.val / 512) 6).val / 7) + r.val % 512 = r.val; omega)
  rwa [e] at h

theorem final7 : (dats m 0 c).arrAt 7 cfg0.N = G7 m c :=
  (dats m 0 c).arrAt_eq_of_cover 7 (G7 m c) (fun t _ => flushed7 m c t) covered7

/-! ### Window 8 -/

theorem idx8 : ∀ t : Fin cfg0.N, win0_8.index t (0 : Fin 2) = t.val / 7 ∧ win0_8.index t (1 : Fin 2) = 0 :=
  (by decide +kernel : ∀ t : Fin grid0.N, _)

/-- The array index of an index of the point's block. -/
theorem emb8 (t : Fin cfg0.N) (r : Fin 512) (k : Fin 1) :
    ((cfg0.win 8).blk t).view.emb (ix2 r k) = ix2 (row (t.val / 7) (block_lt t) r) k := by
  obtain ⟨e0, e1⟩ := idx8 t
  funext a; apply Fin.ext
  match a with
  | ⟨0, _⟩ => show win0_8.index t (0 : Fin 2) * 512 + 1 * r.val = 512 * (t.val / 7) + r.val; omega
  | ⟨1, _⟩ => show win0_8.index t (1 : Fin 2) * 1 + 1 * k.val = k.val; omega

/-- What a point writes back is its block of the specification's array. -/
theorem flushed8 (t : Fin cfg0.N) :
    (dats m 0 c).flushed 8 t = ((cfg0.win 8).blk t).view.read (Elt Ideal) (G8 m c) := by
  show (cfg0.win 8).cut (grid0.coords t) ((dats m 0 c).after 8 t) = _
  rw [after8]
  funext j
  show xsB m c (t.val / 7) j = G8 m c (((cfg0.win 8).blk t).view.emb j)
  obtain ⟨r, k, rfl⟩ : ∃ (r : Fin 512) (k : Fin 1), j = ix2 r k := ⟨j 0, j 1, eq_ix2 j⟩
  rw [emb8]
  obtain rfl : k = 0 := Subsingleton.elim _ _
  exact xsB_apply m c _ (block_lt t) r

/-- The blocks cover the array. -/
theorem covered8 (i : S4096x1.Idx) : ∃ t : Fin cfg0.N, (cfg0.win 8).flush t = true ∧ i ∈ ((cfg0.win 8).blk t).view.set := by
  obtain ⟨r, k, rfl⟩ : ∃ (r : Fin 4096) (k : Fin 1), i = ix2 r k := ⟨i 0, i 1, eq_ix2 i⟩
  have hl := last_mod r.val r.isLt
  refine ⟨pt (r.val / 512) 6, by rw [flush8, decide_eq_true_iff]; omega, ?_⟩
  have h := ((cfg0.win 8).blk (pt (r.val / 512) 6)).view.emb_mem_set (ix2 (⟨r.val % 512, by omega⟩ : Fin 512) k)
  rw [emb8] at h
  have e : row ((pt (r.val / 512) 6).val / 7) (block_lt _) ⟨r.val % 512, by omega⟩ = r :=
    Fin.ext (by show 512 * ((pt (r.val / 512) 6).val / 7) + r.val % 512 = r.val; omega)
  rwa [e] at h

theorem final8 : (dats m 0 c).arrAt 8 cfg0.N = G8 m c :=
  (dats m 0 c).arrAt_eq_of_cover 8 (G8 m c) (fun t _ => flushed8 m c t) covered8

/-! ## The host's results -/

theorem tail3 : Pipeline.afterTail₀ cfgs (dats m) 0 (V0 m) [hostOps1] c main_v3
    = shapeCast S4x1024x1 (G5 m c) shapeCasts_S4096x1_S4x1024x1 := by
  have h : Pipeline.withArrays spec0 c (V0 m c) (fun w => (dats m 0 c).arrAt w cfg0.N) (Proc.devRef .tc main_v2_0) = G5 m c :=
    ((dats m 0 c).withArrays_arrAt sharedIn0 (V0 m c) (A_eq m c) 5).trans (final5 m c)
  rw [← h]
  unfold Pipeline.afterTail₀
  entry_read
  rfl

theorem tail4 : Pipeline.afterTail₀ cfgs (dats m) 0 (V0 m) [hostOps1] c main_v4
    = shapeCast S4x1024x3584 (G6 m c) shapeCasts_S4096x3584_S4x1024x3584 := by
  have h : Pipeline.withArrays spec0 c (V0 m c) (fun w => (dats m 0 c).arrAt w cfg0.N) (Proc.devRef .tc main_v2_1) = G6 m c :=
    ((dats m 0 c).withArrays_arrAt sharedIn0 (V0 m c) (A_eq m c) 6).trans (final6 m c)
  rw [← h]
  unfold Pipeline.afterTail₀
  entry_read
  rfl

theorem tail5 : Pipeline.afterTail₀ cfgs (dats m) 0 (V0 m) [hostOps1] c main_v5
    = shapeCast S4x1024x3584 (G7 m c) shapeCasts_S4096x3584_S4x1024x3584 := by
  have h : Pipeline.withArrays spec0 c (V0 m c) (fun w => (dats m 0 c).arrAt w cfg0.N) (Proc.devRef .tc main_v2_2) = G7 m c :=
    ((dats m 0 c).withArrays_arrAt sharedIn0 (V0 m c) (A_eq m c) 7).trans (final7 m c)
  rw [← h]
  unfold Pipeline.afterTail₀
  entry_read
  rfl

theorem tail6 : Pipeline.afterTail₀ cfgs (dats m) 0 (V0 m) [hostOps1] c main_v6
    = shapeCast S4x1024x1 (G8 m c) shapeCasts_S4096x1_S4x1024x1 := by
  have h : Pipeline.withArrays spec0 c (V0 m c) (fun w => (dats m 0 c).arrAt w cfg0.N) (Proc.devRef .tc main_v2_3) = G8 m c :=
    ((dats m 0 c).withArrays_arrAt sharedIn0 (V0 m c) (A_eq m c) 8).trans (final8 m c)
  rw [← h]
  unfold Pipeline.afterTail₀
  entry_read
  rfl

/-- The run: the four results are the specification's arrays with split rows, the arguments as they were. -/
theorem run : θ_run (defs (F := Ideal)) (onTc (τ := τ) main) ⟨m, fun _ => 0, ρ⟩ fun r => ∀ c : Dev nD,
      r.2.mem ((c : Thread nD τ).loc main_v3) = shapeCast S4x1024x1 (G5 m c) shapeCasts_S4096x1_S4x1024x1
      ∧ r.2.mem ((c : Thread nD τ).loc main_v4) = shapeCast S4x1024x3584 (G6 m c) shapeCasts_S4096x3584_S4x1024x3584
      ∧ r.2.mem ((c : Thread nD τ).loc main_v5) = shapeCast S4x1024x3584 (G7 m c) shapeCasts_S4096x3584_S4x1024x3584
      ∧ r.2.mem ((c : Thread nD τ).loc main_v6) = shapeCast S4x1024x1 (G8 m c) shapeCasts_S4096x1_S4x1024x1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h.1.1 c).2 main_v3 (Pipeline.mem_restRefs_of main_v3 (by decide) (by decide))).trans (tail3 m c),
        ((h.1.1 c).2 main_v4 (Pipeline.mem_restRefs_of main_v4 (by decide) (by decide))).trans (tail4 m c),
        ((h.1.1 c).2 main_v5 (Pipeline.mem_restRefs_of main_v5 (by decide) (by decide))).trans (tail5 m c),
        ((h.1.1 c).2 main_v6 (Pipeline.mem_restRefs_of main_v6 (by decide) (by decide))).trans (tail6 m c),
        h.2 c⟩)
    (θ_run_and (run_quiescent m ρ) (unchanged m ρ))

end Cert.KernelIdeal.Val

end
-- ==== Proof.V.Ref.lean ====
module

public import proofs.«01_k».proof.Proof.Gen.ReferenceIdeal.Skeleton
public import proofs.«01_k».proof.Proof.V.Rows
public import proofs.«01_k».proof.Proof.V.Spec

@[expose] public section

/-! # The reference's values, entry by entry

Each value the reference computes, read at an index over the extended reals: the quantiser of a row (`Quant.scale`,
`Quant.code`), the product, and `h`. -/

noncomputable section

namespace Cert.ReferenceIdeal.Val

open Idealize.ShloMosaic Cert.ReferenceIdeal Cert.ReferenceIdeal.Gen

/-- The named constant is its real number. -/
theorem log_two : Named.named (F := Ideal) (φ := .f32) κ "log_2" 0x3F317218#32 = ((Real.log 2 : ℝ) : EReal) :=
  IdealRules.named_const.ideal_named_scalar _ _ _ _ rfl

/-- The exponents of a vector of largest absolute values, as the reference computes them. -/
def expoVec {s : Shape} (v5 : FVec Ideal s .f32) : FVec Ideal s .f32 :=
  have cst_2 : Ideal .f32 := Scalar.ofBits .f32 0x3B124925#32
  have v6 : FVec Ideal s .f32 := broadcast s cst_2
  have v7 : FVec Ideal s .f32 := mulf v5 v6
  have v8 : FVec Ideal s .f32 := log v7
  have cst_3 : Ideal .f32 := Named.named κ "log_2" 0x3F317218#32
  have v9 : FVec Ideal s .f32 := broadcast s cst_3
  have v10 : FVec Ideal s .f32 := divf v8 v9
  have v11 : FVec Ideal s .f32 := floor v10
  have cst_4 : Ideal .f32 := Scalar.ofBits .f32 0x3F800000#32
  have v12 : FVec Ideal s .f32 := broadcast s cst_4
  have v13 : FVec Ideal s .f32 := addf v11 v12
  have cst_5 : Ideal .f32 := Scalar.ofBits .f32 0xC2FA0000#32
  have cst_6 : Ideal .f32 := Scalar.ofBits .f32 0x42FC0000#32
  have v14 : FVec Ideal s .f32 := broadcast s cst_5
  have v15 : FVec Ideal s .f32 := maximumf v14 v13
  have v16 : FVec Ideal s .f32 := broadcast s cst_6
  have v17 : FVec Ideal s .f32 := minimumf v16 v15
  have cst_7 : Ideal .f32 := Scalar.ofBits .f32 0x00000000#32
  have v18 : FVec Ideal s .f32 := broadcast s cst_7
  have v19 : IVec s 1 := cmpf .oeq v5 v18
  have cst_8 : Ideal .f32 := Scalar.ofBits .f32 0x7F800000#32
  have v20 : FVec Ideal s .f32 := broadcast s cst_8
  have v21 : IVec s 1 := cmpf .oeq v7 v20
  have v22 : IVec s 1 := ori v19 v21
  have cst_9 : Ideal .f32 := Scalar.ofBits .f32 0x00000000#32
  have v23 : FVec Ideal s .f32 := broadcast s cst_9
  have v24 : FVec Ideal s .f32 := select v22 v23 v17
  v24

theorem ofBits_126 : Ideal.ofBits .f32 1123811328#32 = 126 := by
  have : Ideal.ofBits .f32 1123811328#32 = ((126 : ℝ) : EReal) := by
    simp [Ideal.ofBits, Ideal.ieee, -EReal.coe_mul]; norm_num
  rw [this]; rfl

theorem ofBits_neg125 : Ideal.ofBits .f32 3271163904#32 = -125 := by
  have : Ideal.ofBits .f32 3271163904#32 = ((-125 : ℝ) : EReal) := by
    simp [Ideal.ofBits, Ideal.ieee, -EReal.coe_mul, -EReal.coe_neg]; norm_num
  rw [this, EReal.coe_neg]; rfl

/-- A disjunction of two tests selects as the propositions' disjunction. -/
theorem select_or {α : Type} (p q : Prop) [Decidable p] [Decidable q] (a b : α) :
    Scalar.select (IntOp.ori (BitVec.ofBool (decide p)) (BitVec.ofBool (decide q))) a b = if p ∨ q then a else b := by
  by_cases hp : p <;> by_cases hq : q <;> simp [hp, hq, Scalar.select, IntOp.ori]

theorem expoVec_apply {s : Shape} (v : FVec Ideal s .f32) (j : s.Idx) : expoVec v j = Quant.expo (v j) := by
  unfold expoVec
  pointwise
  rw [select_or, log_two, ofBits_126, ofBits_neg125, Quant.ofBits_inf]
  rfl

theorem pay4_eq (x : Vec Ideal S4x1024x3584 .bf16) :
    k0_pay4 (F := Ideal) x = expoVec (shapeCast S4096x1
      (multiReduction .maximumf [1] S4096 (absf (k0_pay3 (F := Ideal) x)) 0xFF800000#32 reduces_S4096x3584_S4096 (.inl rfl) rfl)
      shapeCasts_S4096_S4096x1) := by
  unfold k0_pay4 expoVec
  rfl

theorem pay9_eq (v : FVec Ideal S4096x7168 .f32) (w : Vec Ideal S7168 .f32) :
    k0_pay9 (F := Ideal) v w = expoVec (shapeCast S4096x1
      (multiReduction .maximumf [1] S4096 (absf (k0_pay8 (F := Ideal) v w)) 0xFF800000#32 reduces_S4096x3584_S4096 (.inl rfl) rfl)
      shapeCasts_S4096_S4096x1) := by
  unfold k0_pay9 expoVec
  rfl

/-- The exponent of a row of a matrix. -/
theorem expo_row (X : FVec Ideal S4096x3584 .f32) (r : Fin 4096) :
    expoVec (shapeCast S4096x1
      (multiReduction .maximumf [1] S4096 (absf X) 0xFF800000#32 reduces_S4096x3584_S4096 (.inl rfl) rfl)
      shapeCasts_S4096_S4096x1) (ix2 r 0) = Quant.expo (Quant.rowMax fun k => X (ix2 r k)) := by
  rw [expoVec_apply]
  exact congrArg Quant.expo ((Rows.cast_col _ _ r).trans (Rows.rowMax_abs X _ _ _ r))

/-- The exponent that the reference takes of a row of `x`. -/
theorem pay4_apply (x : Vec Ideal S4x1024x3584 .bf16) (r : Fin 4096) :
    k0_pay4 (F := Ideal) x (ix2 r 0) = Quant.expo (Quant.rowMax fun k => k0_pay3 (F := Ideal) x (ix2 r k)) := by
  rw [pay4_eq, expo_row]

/-- And of a row of `h`. -/
theorem pay9_apply (v : FVec Ideal S4096x7168 .f32) (w : Vec Ideal S7168 .f32) (r : Fin 4096) :
    k0_pay9 (F := Ideal) v w (ix2 r 0) = Quant.expo (Quant.rowMax fun k => k0_pay8 (F := Ideal) v w (ix2 r k)) := by
  rw [pay9_eq, expo_row]

theorem exp2_apply {s : Shape} (e : FVec Ideal s .f32) (j : s.Idx) : exp2 e j = Ideal.exp2 (e j) := rfl

/-- The scale of a row of `x`. -/
theorem pay6_apply (x : Vec Ideal S4x1024x3584 .bf16) (r : Fin 4096) :
    k0_pay6 (F := Ideal) x (ix2 r 0) = Quant.scale (Quant.rowMax fun k => k0_pay3 (F := Ideal) x (ix2 r k)) := by
  unfold k0_pay6
  exact (exp2_apply _ _).trans (congrArg Ideal.exp2 (pay4_apply x r))

/-- Codes from a matrix and its rows' exponents, as the reference computes them. -/
def codeVec (X : FVec Ideal S4096x3584 .f32) (e : FVec Ideal S4096x1 .f32) : FVec Ideal S4096x3584 .fp8e4m3 :=
  truncf .fp8e4m3 (minimumf (broadcast S4096x3584 (Scalar.ofBits .f32 0x43E00000#32))
    (maximumf (broadcast S4096x3584 (Scalar.ofBits .f32 0xC3E00000#32))
      (mulf X (broadcastTo S4096x3584 (exp2 (subf (broadcast S4096x1 (Scalar.ofBits .f32 0x00000000#32)) e))
        broadcasts_S4096x1_S4096x3584)))) bitsLt_fp8e4m3_f32

theorem codeVec_apply (X : FVec Ideal S4096x3584 .f32) (e : FVec Ideal S4096x1 .f32) (r : Fin 4096) (k : Fin 3584) (a : EReal)
    (he : e (ix2 r 0) = Quant.expo a) : codeVec X e (ix2 r k) = Quant.code (X (ix2 r k)) a := by
  unfold codeVec Quant.code Quant.inv
  pointwise
  rw [he]
  rfl

theorem pay5_eq (x : Vec Ideal S4x1024x3584 .bf16) :
    k0_pay5 (F := Ideal) x = codeVec (k0_pay3 (F := Ideal) x) (k0_pay4 (F := Ideal) x) := by
  unfold k0_pay5 codeVec
  rfl

/-- The code of an entry of `x`. -/
theorem pay5_apply (x : Vec Ideal S4x1024x3584 .bf16) (r : Fin 4096) (k : Fin 3584) :
    k0_pay5 (F := Ideal) x (ix2 r k)
      = Quant.code (k0_pay3 (F := Ideal) x (ix2 r k)) (Quant.rowMax fun k => k0_pay3 (F := Ideal) x (ix2 r k)) := by
  rw [pay5_eq, codeVec_apply _ _ r k _ (pay4_apply x r)]

/-- An entry of `h`. -/
theorem pay8_apply (v : FVec Ideal S4096x7168 .f32) (w : Vec Ideal S7168 .f32) (r : Fin 4096) (k : Fin 3584) :
    k0_pay8 (F := Ideal) v w (ix2 r k)
      = Spec.swiglu (v (ix2 r ⟨k.val, by omega⟩) * w (ix1 ⟨k.val, by omega⟩))
        (v (ix2 r ⟨3584 + k.val, by omega⟩) * w (ix1 ⟨3584 + k.val, by omega⟩)) := by
  unfold Spec.swiglu
  pointwise [k0_pay8]

/-- The row of `x` that the reference quantises. -/
theorem pay3_apply (x : Vec Ideal S4x1024x3584 .bf16) (a : Fin 4) (b : Fin 1024) (k : Fin 3584) (r : Fin 4096)
    (hr : r.val = a.val * 1024 + b.val) : k0_pay3 (F := Ideal) x (ix2 r k) = x (ix3 a b k) := by
  unfold k0_pay3
  exact Rows.cast_merge x _ a b k r hr

theorem lin_aux (q : FVec Ideal S4096x3584 .fp8e4m3) (e : FVec Ideal S4096x1 .f32) (w : FVec Ideal S3584x7168 .fp8e4m3)
    (r : Fin 4096) (n : Fin 7168) :
    mulf (matmul dot_S4096x3584_S3584x7168_S4096x7168_1_0_0_1_n_n none q w (constant S4096x7168 .f32 0x00000000#32))
      (broadcastTo S4096x7168 e broadcasts_S4096x1_S4096x7168) (ix2 r n)
      = (∑ k : Fin 3584, q (ix2 r k) * w (ix2 k n)) * e (ix2 r 0) := by
  pointwise

/-- The product, scaled by the row's scale. -/
theorem pay7_apply (x : Vec Ideal S4x1024x3584 .bf16) (w : Vec Ideal S3584x7168 .fp8e4m3) (r : Fin 4096) (n : Fin 7168) :
    k0_pay7 (F := Ideal) x w (ix2 r n)
      = (∑ k : Fin 3584, k0_pay5 (F := Ideal) x (ix2 r k) * w (ix2 k n)) * k0_pay6 (F := Ideal) x (ix2 r 0) := by
  unfold k0_pay7
  exact lin_aux _ _ _ r n

theorem pay10_eq (v : FVec Ideal S4096x7168 .f32) (w : Vec Ideal S7168 .f32) :
    k0_pay10 (F := Ideal) v w = shapeCast S4x1024x1 (exp2 (k0_pay9 (F := Ideal) v w)) shapeCasts_S4096x1_S4x1024x1 := by
  unfold k0_pay10
  rfl

theorem pay11_eq (v : FVec Ideal S4096x7168 .f32) (w : Vec Ideal S7168 .f32) :
    k0_pay11 (F := Ideal) v w
      = shapeCast S4x1024x3584 (codeVec (k0_pay8 (F := Ideal) v w) (k0_pay9 (F := Ideal) v w)) shapeCasts_S4096x3584_S4x1024x3584 := by
  unfold k0_pay11 codeVec
  rfl

/-! ## The four results -/

section

variable (x : Vec Ideal S4x1024x3584 .bf16) (w : Vec Ideal S3584x7168 .fp8e4m3) (s : Vec Ideal S7168 .f32)
variable (X : Fin 4096 → Fin 3584 → EReal) (W : Fin 3584 → Fin 7168 → EReal) (S : Fin 7168 → EReal)
variable (hX : ∀ r k, k0_pay3 (F := Ideal) x (ix2 r k) = X r k) (hW : ∀ k n, w (ix2 k n) = W k n) (hS : ∀ n, s (ix1 n) = S n)

include hX in
theorem xs_apply (r : Fin 4096) : k0_pay6 (F := Ideal) x (ix2 r 0) = Spec.xs X r := by
  rw [pay6_apply]; unfold Spec.xs
  simp only [hX]

include hX in
theorem xc_apply (r : Fin 4096) (k : Fin 3584) : k0_pay5 (F := Ideal) x (ix2 r k) = Spec.xc X r k := by
  rw [pay5_apply]; unfold Spec.xc
  simp only [hX]

include hX hW hS in
theorem lin_apply (r : Fin 4096) (n : Fin 7168) : k0_pay7 (F := Ideal) x w (ix2 r n) * s (ix1 n) = Spec.lin X W S r n := by
  rw [pay7_apply, xs_apply x X hX, hS]
  unfold Spec.lin
  simp only [xc_apply x X hX, hW]

include hX hW hS in
theorem hid_apply (r : Fin 4096) (k : Fin 3584) : k0_pay8 (F := Ideal) (k0_pay7 (F := Ideal) x w) s (ix2 r k) = Spec.hid X W S r k := by
  rw [pay8_apply, lin_apply x w s X W S hX hW hS, lin_apply x w s X W S hX hW hS]
  rfl

include hX in
/-- The scales of `x`. -/
theorem res_xs (a : Fin 4) (b : Fin 1024) (r : Fin 4096) (hr : r.val = a.val * 1024 + b.val) :
    k0_pay2 (F := Ideal) (k0_pay6 (F := Ideal) x) (ix3 a b 0) = Spec.xs X r := by
  unfold k0_pay2
  exact (Rows.cast_split _ _ a b 0 r hr).trans (xs_apply x X hX r)

include hX in
/-- The codes of `x`. -/
theorem res_xc (a : Fin 4) (b : Fin 1024) (k : Fin 3584) (r : Fin 4096) (hr : r.val = a.val * 1024 + b.val) :
    k0_pay1 (F := Ideal) (k0_pay5 (F := Ideal) x) (ix3 a b k) = Spec.xc X r k := by
  unfold k0_pay1
  exact (Rows.cast_split _ _ a b k r hr).trans (xc_apply x X hX r k)

include hX hW hS in
/-- The scales of `h`. -/
theorem res_hs (a : Fin 4) (b : Fin 1024) (r : Fin 4096) (hr : r.val = a.val * 1024 + b.val) :
    k0_pay10 (F := Ideal) (k0_pay7 (F := Ideal) x w) s (ix3 a b 0) = Spec.hs X W S r := by
  rw [pay10_eq]
  refine ((Rows.cast_split _ _ a b 0 r hr).trans (exp2_apply _ _)).trans ?_
  rw [pay9_apply]
  unfold Spec.hs Quant.scale
  simp only [hid_apply x w s X W S hX hW hS]

include hX hW hS in
/-- The codes of `h`. -/
theorem res_hc (a : Fin 4) (b : Fin 1024) (k : Fin 3584) (r : Fin 4096) (hr : r.val = a.val * 1024 + b.val) :
    k0_pay11 (F := Ideal) (k0_pay7 (F := Ideal) x w) s (ix3 a b k) = Spec.hc X W S r k := by
  rw [pay11_eq]
  refine (Rows.cast_split _ _ a b k r hr).trans ?_
  rw [codeVec_apply _ _ r k _ (pay9_apply _ _ r)]
  unfold Spec.hc
  simp only [hid_apply x w s X W S hX hW hS]

end

end Cert.ReferenceIdeal.Val

end
-- ==== Proof.V.RefRun.lean ====
module

public import proofs.«01_k».proof.Proof.Gen.ReferenceIdeal.Frame
public import Idealize.ShloMosaic.Lib.Pipeline.Value

@[expose] public section

/-! # The reference's run

The reference runs at one grid point whose blocks are whole arrays, so each result array ends at the reference's value of
the argument arrays. -/

noncomputable section

namespace Cert.ReferenceIdeal.Arrays

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1024x3584.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1024 + 1 * (j 1).val = (j 1).val; omega
  | ⟨2, _⟩ => show win0_0.index t (2 : Fin 3) * 3584 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3584x7168.Idx) : ((cfg0.win 1).blk t).view.emb j = j := by
  obtain ⟨e0, e1⟩ := idx_zero1 t
  funext a; apply Fin.ext
  match a with
  | ⟨0, _⟩ => show win0_1.index t (0 : Fin 2) * 3584 + 1 * (j 0).val = (j 0).val; omega
  | ⟨1, _⟩ => show win0_1.index t (1 : Fin 2) * 7168 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S7168.Idx) : ((cfg0.win 2).blk t).view.emb j = j := by
  have e0 := idx_zero2 t
  funext a; apply Fin.ext
  match a with
  | ⟨0, _⟩ => show win0_2.index t (0 : Fin 1) * 7168 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x1024x1.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 1024 + 1 * (j 1).val = (j 1).val; omega
  | ⟨2, _⟩ => show win0_3.index t (2 : Fin 3) * 1 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x1024x3584.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 1024 + 1 * (j 1).val = (j 1).val; omega
  | ⟨2, _⟩ => show win0_4.index t (2 : Fin 3) * 3584 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x1024x3584.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 1024 + 1 * (j 1).val = (j 1).val; omega
  | ⟨2, _⟩ => show win0_5.index t (2 : Fin 3) * 3584 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x1024x1.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 1 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S4x1024x3584 .bf16) (a1 : Vec F S3584x7168 .fp8e4m3) (a2 : Vec F S7168 .f32) : Vec F S4x1024x1 .f32 :=
  k0_pay10 (k0_pay12 a0 a1 a2) a2

/-- A load of the whole of a block reads the block, and the one store through the whole rectangle leaves its payload. -/
theorem out3_eq (a0 : Vec F S4x1024x3584 .bf16) (a1 : Vec F S3584x7168 .fp8e4m3) (a2 : Vec F S7168 .f32) : out0_3 (F := F) a0 a1 a2 = G3 a0 a1 a2 := by
  unfold out0_3
  rw [View.canon_unit_zero hz3, View.ld_unit_zero (S := S7168) hz2 _ a2]

/-- Cutting the point's block out of `X` and reading `X` through the block's view give the same. -/
theorem cut3_eq (t : Fin cfg0.N) (X : Vec F S4x1024x1 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S4x1024x1.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S4x1024x3584 .bf16) (a1 : Vec F S3584x7168 .fp8e4m3) (a2 : Vec F S7168 .f32) : Vec F S4x1024x3584 .fp8e4m3 :=
  k0_pay11 (k0_pay12 a0 a1 a2) a2

/-- A load of the whole of a block reads the block, and the one store through the whole rectangle leaves its payload. -/
theorem out4_eq (a0 : Vec F S4x1024x3584 .bf16) (a1 : Vec F S3584x7168 .fp8e4m3) (a2 : Vec F S7168 .f32) : out0_4 (F := F) a0 a1 a2 = G4 a0 a1 a2 := by
  unfold out0_4
  rw [View.canon_unit_zero hz4, View.ld_unit_zero (S := S7168) hz2 _ a2]

/-- Cutting the point's block out of `X` and reading `X` through the block's view give the same. -/
theorem cut4_eq (t : Fin cfg0.N) (X : Vec F S4x1024x3584 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4x1024x3584.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S4x1024x3584 .bf16) (a1 : Vec F S3584x7168 .fp8e4m3) (a2 : Vec F S7168 .f32) : Vec F S4x1024x3584 .fp8e4m3 :=
  k0_pay1 (k0_pay5 a0)

/-- A load of the whole of a block reads the block, and the one store through the whole rectangle leaves its payload. -/
theorem out5_eq (a0 : Vec F S4x1024x3584 .bf16) (a1 : Vec F S3584x7168 .fp8e4m3) (a2 : Vec F S7168 .f32) : out0_5 (F := F) a0 a1 a2 = G5 a0 a1 a2 := by
  unfold out0_5
  rw [View.canon_unit_zero hz5, View.ld_unit_zero (S := S4x1024x3584) hz0 _ a0]

/-- Cutting the point's block out of `X` and reading `X` through the block's view give the same. -/
theorem cut5_eq (t : Fin cfg0.N) (X : Vec F S4x1024x3584 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S4x1024x3584.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S4x1024x3584 .bf16) (a1 : Vec F S3584x7168 .fp8e4m3) (a2 : Vec F S7168 .f32) : Vec F S4x1024x1 .f32 :=
  k0_pay2 (k0_pay6 a0)

/-- A load of the whole of a block reads the block, and the one store through the whole rectangle leaves its payload. -/
theorem out6_eq (a0 : Vec F S4x1024x3584 .bf16) (a1 : Vec F S3584x7168 .fp8e4m3) (a2 : Vec F S7168 .f32) : out0_6 (F := F) a0 a1 a2 = G6 a0 a1 a2 := by
  unfold out0_6
  rw [View.canon_unit_zero hz6, View.ld_unit_zero (S := S4x1024x3584) hz0 _ a0]

/-- Cutting the point's block out of `X` and reading `X` through the block's view give the same. -/
theorem cut6_eq (t : Fin cfg0.N) (X : Vec F S4x1024x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S4x1024x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      kept_main_arg0 m r h c,
      kept_main_arg1 m r h c,
      kept_main_arg2 m r h c⟩)
    (run_main m ρ)

end Cert.ReferenceIdeal.Arrays

end
-- ==== Proof.V.Same.lean ====
module

public import proofs.«01_k».proof.Proof.V.KernRun
public import proofs.«01_k».proof.Proof.V.Ref
public import proofs.«01_k».proof.Proof.V.RefRun

@[expose] public section

/-! # The two programs' results are the same

Over the extended reals the reference's four results of the kernel's arguments are the kernel's four results. -/

noncomputable section

namespace Cert.Same

open Idealize.ShloMosaic Idealize.ShloMosaic.TcCoe Cert.KernelIdeal.Val

variable (m : (ℓ : Loc Cert.KernelIdeal.nD Cert.KernelIdeal.τ Cert.KernelIdeal.sig) → Buf (Elt Ideal) ℓ) (c : Dev Cert.KernelIdeal.nD)

/-- The kernel's first argument, as the reference reads it. -/
abbrev a0 : Vec Ideal Cert.ReferenceIdeal.S4x1024x3584 .bf16 := m ((c : Thread Cert.KernelIdeal.nD Cert.KernelIdeal.τ).loc Cert.KernelIdeal.main_arg0)
/-- The second. -/
abbrev a1 : Vec Ideal Cert.ReferenceIdeal.S3584x7168 .fp8e4m3 := m ((c : Thread Cert.KernelIdeal.nD Cert.KernelIdeal.τ).loc Cert.KernelIdeal.main_arg1)
/-- The third. -/
abbrev a2 : Vec Ideal Cert.ReferenceIdeal.S7168 .f32 := m ((c : Thread Cert.KernelIdeal.nD Cert.KernelIdeal.τ).loc Cert.KernelIdeal.main_arg2)

theorem hX (r : Fin 4096) (k : Fin 3584) : Cert.ReferenceIdeal.Gen.k0_pay3 (F := Ideal) (a0 m c) (ix2 r k) = X m c r k :=
  Cert.ReferenceIdeal.Val.pay3_apply (a0 m c) _ _ k r (by show r.val = r.val / 1024 * 1024 + r.val % 1024; omega)

theorem hW (k : Fin 3584) (n : Fin 7168) : a1 m c (ix2 k n) = W m c k n := rfl

theorem hS (n : Fin 7168) : a2 m c (ix1 n) = S m c n := rfl

/-- The row of a pair of leading indices. -/
def merged (a : Fin 4) (b : Fin 1024) : Fin 4096 := ⟨a.val * 1024 + b.val, by omega⟩

theorem pay12_eq : Cert.ReferenceIdeal.Gen.k0_pay12 (F := Ideal) (a0 m c) (a1 m c) (a2 m c)
    = Cert.ReferenceIdeal.Gen.k0_pay7 (F := Ideal) (a0 m c) (a1 m c) := by
  unfold Cert.ReferenceIdeal.Gen.k0_pay12
  rw [View.ld_unit_zero Cert.ReferenceIdeal.Arrays.hz0 _ (a0 m c), View.ld_unit_zero Cert.ReferenceIdeal.Arrays.hz1 _ (a1 m c)]

theorem same_hs : Cert.ReferenceIdeal.Arrays.G3 (F := Ideal) (a0 m c) (a1 m c) (a2 m c)
    = shapeCast Cert.KernelIdeal.S4x1024x1 (G5 m c) Cert.KernelIdeal.Gen.shapeCasts_S4096x1_S4x1024x1 := by
  funext i
  obtain ⟨a, b, k, rfl⟩ : ∃ (a : Fin 4) (b : Fin 1024) (k : Fin 1), i = ix3 a b k := ⟨i 0, i 1, i 2, eq_ix3 i⟩
  obtain rfl : k = 0 := Subsingleton.elim _ _
  unfold Cert.ReferenceIdeal.Arrays.G3
  rw [pay12_eq]
  exact (Cert.ReferenceIdeal.Val.res_hs _ _ _ _ _ _ (hX m c) (hW m c) (hS m c) a b (merged a b) rfl).trans
    (Rows.cast_split (G5 m c) _ a b 0 (merged a b) rfl).symm

theorem same_hc : Cert.ReferenceIdeal.Arrays.G4 (F := Ideal) (a0 m c) (a1 m c) (a2 m c)
    = shapeCast Cert.KernelIdeal.S4x1024x3584 (G6 m c) Cert.KernelIdeal.Gen.shapeCasts_S4096x3584_S4x1024x3584 := by
  funext i
  obtain ⟨a, b, k, rfl⟩ : ∃ (a : Fin 4) (b : Fin 1024) (k : Fin 3584), i = ix3 a b k := ⟨i 0, i 1, i 2, eq_ix3 i⟩
  unfold Cert.ReferenceIdeal.Arrays.G4
  rw [pay12_eq]
  exact (Cert.ReferenceIdeal.Val.res_hc _ _ _ _ _ _ (hX m c) (hW m c) (hS m c) a b k (merged a b) rfl).trans
    (Rows.cast_split (G6 m c) _ a b k (merged a b) rfl).symm

theorem same_xc : Cert.ReferenceIdeal.Arrays.G5 (F := Ideal) (a0 m c) (a1 m c) (a2 m c)
    = shapeCast Cert.KernelIdeal.S4x1024x3584 (G7 m c) Cert.KernelIdeal.Gen.shapeCasts_S4096x3584_S4x1024x3584 := by
  funext i
  obtain ⟨a, b, k, rfl⟩ : ∃ (a : Fin 4) (b : Fin 1024) (k : Fin 3584), i = ix3 a b k := ⟨i 0, i 1, i 2, eq_ix3 i⟩
  exact (Cert.ReferenceIdeal.Val.res_xc _ _ (hX m c) a b k (merged a b) rfl).trans
    (Rows.cast_split (G7 m c) _ a b k (merged a b) rfl).symm

theorem same_xs : Cert.ReferenceIdeal.Arrays.G6 (F := Ideal) (a0 m c) (a1 m c) (a2 m c)
    = shapeCast Cert.KernelIdeal.S4x1024x1 (G8 m c) Cert.KernelIdeal.Gen.shapeCasts_S4096x1_S4x1024x1 := by
  funext i
  obtain ⟨a, b, k, rfl⟩ : ∃ (a : Fin 4) (b : Fin 1024) (k : Fin 1), i = ix3 a b k := ⟨i 0, i 1, i 2, eq_ix3 i⟩
  obtain rfl : k = 0 := Subsingleton.elim _ _
  exact (Cert.ReferenceIdeal.Val.res_xs _ _ (hX m c) a b (merged a b) rfl).trans
    (Rows.cast_split (G8 m c) _ a b 0 (merged a b) rfl).symm

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.P.Run
public import proofs.«01_k».proof.Proof.PI.Run
public import proofs.«01_k».proof.Proof.V.Same
public import Idealize.ShloMosaic.Adequacy
public import Idealize.ShloMosaic.Init

@[expose] public section

noncomputable section

namespace Cert.Proof

open Idealize.ShloMosaic Idealize.SL.Sem Cert.Kernel

/-- The two idealised programs leave the same four results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => _, fun c => _, fun c => _, fun c => _, Cert.KernelIdeal.Val.run m g, ?_⟩
  refine (θ_run Cert.ReferenceIdeal.defs _ _).mono (fun r h c => ?_) (Cert.ReferenceIdeal.Arrays.run (F := Ideal) m' g')
  obtain ⟨h0, h1, h2, h3, hk⟩ := h c
  obtain ⟨e0, e1, e2⟩ := hargs c
  rw [e0, e1, e2] at h0 h1 h2 h3
  exact ⟨h0.trans (Cert.Same.same_hs m c), h1.trans (Cert.Same.same_hc m c), h2.trans (Cert.Same.same_xc m c),
    h3.trans (Cert.Same.same_xs m c), hk⟩

theorem claim : Cert.Claim := ⟨Cert.Kernel.Gen.facts, Cert.KernelIdeal.Gen.facts, Cert.ReferenceIdeal.Gen.facts,
  fun m ρ _ => Cert.Kernel.Run.quiescent m ρ,
  fun m ρ _ => Cert.KernelIdeal.Run.quiescent m ρ,
  fun m ρ _ => Cert.ReferenceIdeal.Gen.frame m ρ,
  trivial,
  algebraic⟩

end Cert.Proof

end
